-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S1x256x50304 : Shape := ⟨3, ![1, 256, 50304]⟩
abbrev S1x256x393 : Shape := ⟨3, ![1, 256, 393]⟩
abbrev S1x256x2560 : Shape := ⟨3, ![1, 256, 2560]⟩
abbrev S1x256 : Shape := ⟨2, ![1, 256]⟩
abbrev S_ : Shape := ⟨0, ![]⟩

class Facts : Prop where
  bcast_S_S1x256 : S_.BroadcastsInDim S1x256 (![] : Fin 0 → Fin S1x256.rank)

variable [Facts]

def fn {F : FTy → Type} [FloatOps F] (main_arg0 : FVec F S1x256x50304 .fp8e5m2) (main_arg1 : FVec F S1x256x393 .f32) (main_arg2 : FVec F S1x256x2560 .fp8e4m3) (main_arg3 : FVec F S1x256 .f32) (main_arg4 : IVec S1x256 32) (main_arg5 : FVec F S1x256x2560 .bf16) : IVec S1x256 1 :=
  let main_c : IVec S_ 32 := constantI S_ 32 0#32
  let main_v0 : IVec S1x256 32 := broadcastInDim S1x256 ![] bcast_S_S1x256 main_c
  let main_v1 : IVec S1x256 1 := cmpi .sge main_arg4 main_v0
  let main_c_0 : IVec S_ 32 := constantI S_ 32 50304#32
  let main_v2 : IVec S1x256 32 := broadcastInDim S1x256 ![] bcast_S_S1x256 main_c_0
  let main_v3 : IVec S1x256 1 := cmpi .slt main_arg4 main_v2
  let main_v4 : IVec S1x256 1 := andi main_v1 main_v3
  main_v4
-- ==== Kernel.lean ====
abbrev S1x256x50304 : Shape := ⟨3, ![1, 256, 50304]⟩
abbrev S1x256x393 : Shape := ⟨3, ![1, 256, 393]⟩
abbrev S1x256x2560 : Shape := ⟨3, ![1, 256, 2560]⟩
abbrev S1x256 : Shape := ⟨2, ![1, 256]⟩
abbrev S256x50304 : Shape := ⟨2, ![256, 50304]⟩
abbrev S256x393 : Shape := ⟨2, ![256, 393]⟩
abbrev S256x2560 : Shape := ⟨2, ![256, 2560]⟩
abbrev S50304x2560 : Shape := ⟨2, ![50304, 2560]⟩
abbrev S256x384 : Shape := ⟨2, ![256, 384]⟩
abbrev S384x2560 : Shape := ⟨2, ![384, 2560]⟩
abbrev S400x256 : Shape := ⟨2, ![400, 256]⟩
abbrev S131 : Shape := ⟨1, ![131]⟩
abbrev S256 : Shape := ⟨1, ![256]⟩
abbrev S128x256 : Shape := ⟨2, ![128, 256]⟩
abbrev S256x128 : Shape := ⟨2, ![256, 128]⟩
abbrev S393x256 : Shape := ⟨2, ![393, 256]⟩
abbrev S1 : Shape := ⟨1, ![1]⟩
abbrev S1x1 : Shape := ⟨2, ![1, 1]⟩
abbrev S384x256 : Shape := ⟨2, ![384, 256]⟩
abbrev S1x2560 : Shape := ⟨2, ![1, 2560]⟩

abbrev nBuf : Space → Nat
  | .hbm => 11
  | .vmem => 11
  | .smem => 3
  | _ => 0

abbrev bufTy : (tb : Table) → Fin (tcTables nBuf tb) → BufTy
  | .hbm, ⟨0, _⟩ => ⟨S1x256x50304, .fp8e5m2⟩
  | .hbm, ⟨1, _⟩ => ⟨S1x256x393, .f32⟩
  | .hbm, ⟨2, _⟩ => ⟨S1x256x2560, .fp8e4m3⟩
  | .hbm, ⟨3, _⟩ => ⟨S1x256, .f32⟩
  | .hbm, ⟨4, _⟩ => ⟨S1x256, .i32⟩
  | .hbm, ⟨5, _⟩ => ⟨S1x256x2560, .bf16⟩
  | .hbm, ⟨6, _⟩ => ⟨S256x50304, .fp8e5m2⟩
  | .hbm, ⟨7, _⟩ => ⟨S256x393, .f32⟩
  | .hbm, ⟨8, _⟩ => ⟨S256x2560, .fp8e4m3⟩
  | .hbm, ⟨9, _⟩ => ⟨S256x2560, .bf16⟩
  | .hbm, ⟨10, _⟩ => ⟨S50304x2560, .f32⟩
  | .local _ .vmem, ⟨0, _⟩ => ⟨S256x384, .fp8e5m2⟩
  | .local _ .vmem, ⟨1, _⟩ => ⟨S256x384, .fp8e5m2⟩
  | .local _ .vmem, ⟨2, _⟩ => ⟨S256x393, .f32⟩
  | .local _ .vmem, ⟨3, _⟩ => ⟨S256x2560, .fp8e4m3⟩
  | .local _ .vmem, ⟨4, _⟩ => ⟨S1x256, .f32⟩
  | .local _ .vmem, ⟨5, _⟩ => ⟨S256x2560, .bf16⟩
  | .local _ .vmem, ⟨6, _⟩ => ⟨S384x2560, .f32⟩
  | .local _ .vmem, ⟨7, _⟩ => ⟨S384x2560, .f32⟩
  | .local _ .vmem, ⟨8, _⟩ => ⟨S256x2560, .bf16⟩
  | .local _ .vmem, ⟨9, _⟩ => ⟨S400x256, .f32⟩
  | .local _ .vmem, ⟨10, _⟩ => ⟨S256x2560, .f32⟩
  | .local _ .smem, ⟨0, _⟩ => ⟨S1x256, .i32⟩
  | .local _ .smem, ⟨1, _⟩ => ⟨S131, .i32⟩
  | .local _ .smem, ⟨2, _⟩ => ⟨S256, .i32⟩
  | _, _ => ⟨S1x256x50304, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_scratch3 : Ref sig .tc := ⟨.smem, 1, rfl⟩
abbrev cc0_scratch4 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![131], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_83 : BitVec 32 := 0#32
  let c131_i32 : BitVec 32 := 131#32
  let v195 : BitVec 32 := Scalar.addi c0_i32_83 c131_i32
  let c1_i32_84 : BitVec 32 := 1#32
  ⟨c0_i32_83, v195, c1_i32_84⟩
def k0_off1 (k0_t1 : Fin k0_t1_loop.trips) : Fin 1 → Nat :=
  let c0_i32_83 : BitVec 32 := 0#32
  let c1_i32_84 : BitVec 32 := 1#32
  let arg13 : BitVec 32 := Scf.iv c0_i32_83 c1_i32_84 k0_t1
  let v197 : Index := Scalar.indexCast arg13
  ![v197.toNat]
@[reducible] def k0_t2_loop : Scf.Loop 32 :=
  let c0_i32_86 : BitVec 32 := 0#32
  let c256_i32 : BitVec 32 := 256#32
  let v196 : BitVec 32 := Scalar.addi c0_i32_86 c256_i32
  let c1_i32_87 : BitVec 32 := 1#32
  ⟨c0_i32_86, v196, c1_i32_87⟩
def k0_off2 (k0_t2 : Fin k0_t2_loop.trips) : Fin 2 → Nat :=
  let c0_89 : Index := 0#32
  let c255_i32 : BitVec 32 := 255#32
  let c0_i32_86 : BitVec 32 := 0#32
  let c1_i32_87 : BitVec 32 := 1#32
  let arg13 : BitVec 32 := Scf.iv c0_i32_86 c1_i32_87 k0_t2
  let v197 : BitVec 32 := Scalar.subi c255_i32 arg13
  let v198 : Index := Scalar.indexCast v197
  ![0, v198.toNat]
def k0_off3 (v199 : BitVec 32) : Fin 1 → Nat :=
  let c0_i32_90 : BitVec 32 := 0#32
  let v201 : BitVec 1 := Scalar.cmpi .sgt v199 c0_i32_90
  let v202 : BitVec 32 := Scalar.extui v201
  let c0_i32_91 : BitVec 32 := 0#32
  let v203 : BitVec 1 := Scalar.cmpi .slt v199 c0_i32_91
  let v204 : BitVec 32 := Scalar.extui v203
  let v205 : BitVec 32 := Scalar.subi v202 v204
  let c384_i32 : BitVec 32 := 384#32
  let c0_i32_92 : BitVec 32 := 0#32
  let v206 : BitVec 1 := Scalar.cmpi .sgt c384_i32 c0_i32_92
  let v207 : BitVec 32 := Scalar.extui v206
  let c0_i32_93 : BitVec 32 := 0#32
  let v208 : BitVec 1 := Scalar.cmpi .slt c384_i32 c0_i32_93
  let v209 : BitVec 32 := Scalar.extui v208
  let v210 : BitVec 32 := Scalar.subi v207 v209
  let v211 : BitVec 1 := Scalar.cmpi .ne v205 v210
  let v212 : BitVec 32 := Scalar.remsi v199 c384_i32
  let c0_i32_94 : BitVec 32 := 0#32
  let v213 : BitVec 1 := Scalar.cmpi .ne v212 c0_i32_94
  let v214 : BitVec 1 := Scalar.andi v211 v213
  let v200 : BitVec 32 := Scalar.divsi v199 c384_i32
  let c1_i32_95 : BitVec 32 := 1#32
  let v215 : BitVec 32 := Scalar.subi v200 c1_i32_95
  let v216 : BitVec 32 := Scalar.select v214 v215 v200
  let v217 : Index := Scalar.indexCast v216
  ![v217.toNat]

def k0_chk1 (i : grid0.Coords) (v199 : BitVec 32) : Prop :=
  (∀ (k0_h1 : k0_cond1 i = 1#1), ∀ a, (k0_off3 v199) a + S1.size a ≤ S131.size a)
theorem k0_off3_inb : ∀ (i : grid0.Coords) (v199 : BitVec 32) (k0_hw1 : k0_chk1 i v199), ∀ (k0_h1 : k0_cond1 i = 1#1), ∀ a, (k0_off3 v199) a + S1.size a ≤ S131.size a := fun i v199 k0_hw1 k0_h1 => k0_hw1 k0_h1

def k0_off4 (k0_t2 : Fin k0_t2_loop.trips) : Fin 1 → Nat :=
  let c255_i32 : BitVec 32 := 255#32
  let c0_i32_86 : BitVec 32 := 0#32
  let c1_i32_87 : BitVec 32 := 1#32
  let arg13 : BitVec 32 := Scf.iv c0_i32_86 c1_i32_87 k0_t2
  let v197 : BitVec 32 := Scalar.subi c255_i32 arg13
  let v219 : Index := Scalar.indexCast v197
  ![v219.toNat]
def k0_off5 (i : grid0.Coords) (c0_i32_2 : BitVec 32) : Fin 2 → Nat :=
  let arg0 : BitVec 32 := BitVec.ofNat 32 (i 0).val
  let c3_i32 : BitVec 32 := 3#32
  let v7 : BitVec 32 := Scalar.muli arg0 c3_i32
  let v8 : BitVec 32 := Scalar.addi v7 c0_i32_2
  let v9 : Index := Scalar.indexCast v8
  let c0_3 : Index := 0#32
  ![v9.toNat, 0]
def k0_off6 (i : grid0.Coords) : Fin 1 → Nat :=
  let arg0 : BitVec 32 := BitVec.ofNat 32 (i 0).val
  let v35 : Index := Scalar.indexCast arg0
  ![v35.toNat]
def k0_off7 (arg13 : BitVec 32) : Fin 2 → Nat :=
  let c0_12 : Index := 0#32
  let v38 : Index := Scalar.indexCast arg13
  ![0, v38.toNat]

def k0_off8 (i : grid0.Coords) (v39 : BitVec 32) : Fin 2 → Nat :=
  let arg0 : BitVec 32 := BitVec.ofNat 32 (i 0).val
  let c384_i32 : BitVec 32 := 384#32
  let v40 : BitVec 32 := Scalar.muli arg0 c384_i32
  let v41 : BitVec 32 := Scalar.subi v39 v40
  let v42 : Index := Scalar.indexCast v41
  let c0_13 : Index := 0#32
  ![v42.toNat, 0]

def k0_chk3 (i : grid0.Coords) (v39 : BitVec 32) : Prop :=
  (∀ a, (k0_off8 i v39) a + S1x2560.size a ≤ S384x2560.size a)
theorem k0_off8_inb : ∀ (i : grid0.Coords) (v39 : BitVec 32) (k0_hw3 : k0_chk3 i v39), ∀ a, (k0_off8 i v39) a + S1x2560.size a ≤ S384x2560.size a := fun i v39 k0_hw3 => k0_hw3

def k0_off9 (arg13 : BitVec 32) : Fin 2 → Nat :=
  let v45 : Index := Scalar.indexCast arg13
  let c0_14 : Index := 0#32
  ![v45.toNat, 0]
def k0_off10 (arg13 : BitVec 32) : Fin 1 → Nat :=
  let v50 : Index := Scalar.indexCast arg13
  ![v50.toNat]

def k0_chk2 (arg13 : BitVec 32) : Prop :=
  (∀ a, (k0_off7 arg13) a + S1x1.size a ≤ S1x256.size a) ∧
  (∀ a, (k0_off9 arg13) a + S1x2560.size a ≤ S256x2560.size a) ∧
  (∀ a, (k0_off10 arg13) a + S1.size a ≤ S256.size a)
theorem k0_off7_inb : ∀ (arg13 : BitVec 32) (k0_hw2 : k0_chk2 arg13), ∀ a, (k0_off7 arg13) a + S1x1.size a ≤ S1x256.size a := fun arg13 k0_hw2 => k0_hw2.1
theorem k0_off9_inb : ∀ (arg13 : BitVec 32) (k0_hw2 : k0_chk2 arg13), ∀ a, (k0_off9 arg13) a + S1x2560.size a ≤ S256x2560.size a := fun arg13 k0_hw2 => k0_hw2.2.1
theorem k0_off10_inb : ∀ (arg13 : BitVec 32) (k0_hw2 : k0_chk2 arg13), ∀ a, (k0_off10 arg13) a + S1.size a ≤ S256.size a := fun arg13 k0_hw2 => k0_hw2.2.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x384 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x393 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x256x50304 : Shape := ⟨3, ![1, 256, 50304]⟩
abbrev S1x256x393 : Shape := ⟨3, ![1, 256, 393]⟩
abbrev S1x256x2560 : Shape := ⟨3, ![1, 256, 2560]⟩
abbrev S1x256 : Shape := ⟨2, ![1, 256]⟩
abbrev S1x256x393x128 : Shape := ⟨4, ![1, 256, 393, 128]⟩
abbrev S1x256x393x1 : Shape := ⟨4, ![1, 256, 393, 1]⟩
abbrev S1x256x1 : Shape := ⟨3, ![1, 256, 1]⟩
abbrev S50304x2560 : Shape := ⟨2, ![50304, 2560]⟩
abbrev S256 : Shape := ⟨1, ![256]⟩
abbrev S256x2560 : Shape := ⟨2, ![256, 2560]⟩
abbrev S_ : Shape := ⟨0, ![]⟩
abbrev S256x1 : Shape := ⟨2, ![256, 1]⟩

abbrev nBuf : Space → Nat
  | .hbm => 31
  | .vmem => 4
  | .smem => 0
  | _ => 0

abbrev bufTy : (tb : Table) → Fin (tcTables nBuf tb) → BufTy
  | .hbm, ⟨0, _⟩ => ⟨S1x256x50304, .fp8e5m2⟩
  | .hbm, ⟨1, _⟩ => ⟨S1x256x393, .f32⟩
  | .hbm, ⟨2, _⟩ => ⟨S1x256x2560, .fp8e4m3⟩
  | .hbm, ⟨3, _⟩ => ⟨S1x256, .f32⟩
  | .hbm, ⟨4, _⟩ => ⟨S1x256, .i32⟩
  | .hbm, ⟨5, _⟩ => ⟨S1x256x2560, .bf16⟩
  | .hbm, ⟨6, _⟩ => ⟨S1x256x50304, .bf16⟩
  | .hbm, ⟨7, _⟩ => ⟨S1x256x2560, .bf16⟩
  | .hbm, ⟨8, _⟩ => ⟨S1x256x393x128, .bf16⟩
  | .hbm, ⟨9, _⟩ => ⟨S1x256x393, .bf16⟩
  | .hbm, ⟨10, _⟩ => ⟨S1x256x393x1, .bf16⟩
  | .hbm, ⟨11, _⟩ => ⟨S1x256x393x128, .bf16⟩
  | .hbm, ⟨12, _⟩ => ⟨S1x256x393x128, .bf16⟩
  | .hbm, ⟨13, _⟩ => ⟨S1x256x50304, .bf16⟩
  | .hbm, ⟨14, _⟩ => ⟨S1x256, .bf16⟩
  | .hbm, ⟨15, _⟩ => ⟨S1x256x1, .bf16⟩
  | .hbm, ⟨16, _⟩ => ⟨S1x256x2560, .bf16⟩
  | .hbm, ⟨17, _⟩ => ⟨S1x256x2560, .bf16⟩
  | .hbm, ⟨18, _⟩ => ⟨S50304x2560, .f32⟩
  | .hbm, ⟨19, _⟩ => ⟨S256, .i32⟩
  | .hbm, ⟨20, _⟩ => ⟨S256x2560, .bf16⟩
  | .hbm, ⟨21, _⟩ => ⟨S256x2560, .f32⟩
  | .hbm, ⟨22, _⟩ => ⟨S_, .i32⟩
  | .hbm, ⟨23, _⟩ => ⟨S256, .i32⟩
  | .hbm, ⟨24, _⟩ => ⟨S256, .i1⟩
  | .hbm, ⟨25, _⟩ => ⟨S_, .i32⟩
  | .hbm, ⟨26, _⟩ => ⟨S256, .i32⟩
  | .hbm, ⟨27, _⟩ => ⟨S256, .i32⟩
  | .hbm, ⟨28, _⟩ => ⟨S256, .i32⟩
  | .hbm, ⟨29, _⟩ => ⟨S256x1, .i32⟩
  | .hbm, ⟨30, _⟩ => ⟨S50304x2560, .f32⟩
  | .local _ .vmem, ⟨0, _⟩ => ⟨S1x256x50304, .fp8e5m2⟩
  | .local _ .vmem, ⟨1, _⟩ => ⟨S1x256x2560, .fp8e4m3⟩
  | .local _ .vmem, ⟨2, _⟩ => ⟨S1x256x50304, .bf16⟩
  | .local _ .vmem, ⟨3, _⟩ => ⟨S1x256x2560, .bf16⟩
  | _, _ => ⟨S1x256x50304, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1x256x50304 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256x50304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.K.Owns.lean ====
module

public import Idealize.ShloMosaic.Lib.Memref
public import Idealize.ShloMosaic.Lib.Writes
public import Idealize.ShloMosaic.Lib.Tactic
public import Idealize.ShloMosaic.Lib.Exec

/-! # Loads and stores of a memref held by what it reads

`upd X r w` is the array `X` with the rectangle `r` replaced by `w`. The two rules state a load and a store of a
memref held at contents `X`: a load gives the rectangle of `X`, a store leaves `upd X r w`. -/

@[expose] public section
noncomputable section

namespace Cert.Proof.K

open Idealize.ShloMosaic
open Idealize.SL Idealize.SL.RA Idealize.SL.BI
open scoped Idealize.SL.BI
open Idealize.SL.BI.BIBase Idealize.SL.BI.Laws Idealize.SL.ProofMode Idealize.SL.Sem

open Classical in
/-- `X` with the elements of the rectangle `r` replaced by `w`. -/
def upd {α : Type} {s : Shape} (X : s.Idx → α) (r : Rect s) (w : r.shape.Idx → α) : s.Idx → α :=
  fun y => if h : ∃ x, r.emb x = y then w h.choose else X y

/-- Inside the rectangle `upd` is the new value. -/
theorem upd_emb {α : Type} {s : Shape} (X : s.Idx → α) (r : Rect s) (w : r.shape.Idx → α) (x : r.shape.Idx) :
    upd X r w (r.emb x) = w x := by
  have h : ∃ x', r.emb x' = r.emb x := ⟨x, rfl⟩
  unfold upd
  rw [dif_pos h]
  exact congrArg w (r.emb.injective h.choose_spec)

/-- `upd_emb`, the place named by the caller. -/
theorem upd_hit {α : Type} {s : Shape} (X : s.Idx → α) (r : Rect s) (w : r.shape.Idx → α) (y : s.Idx) (x : r.shape.Idx)
    (hx : ∀ a, (y a).val = r.off a + r.stride a * (x a).val) : upd X r w y = w x := by
  have h : r.emb x = y := r.emb_eq_of_coords x y hx
  rw [← h, upd_emb]

/-- Outside the rectangle `upd` changes nothing; one axis tells the place apart from the rectangle. -/
theorem upd_miss {α : Type} {s : Shape} (X : s.Idx → α) (r : Rect s) (w : r.shape.Idx → α) (y : s.Idx) (a : Fin s.rank)
    (hs : r.stride a = 1) (h : (y a).val < r.off a ∨ r.off a + r.size a ≤ (y a).val) : upd X r w y = X y := by
  unfold upd
  rw [dif_neg]
  rintro ⟨x, hx⟩
  have hx' : (y a).val = r.off a + r.stride a * (x a).val := by rw [← hx]; rfl
  have := (x a).isLt
  rw [hs, Nat.one_mul] at hx'
  change (x a).val < r.size a at this
  omega

section Rules

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- What a memref reads after one store through it. -/
theorem read_store {sp : Space} (m : Memref sig c.2.kind sp s e) (r : Rect s) (w : r.shape.Idx → Val e)
    (f : m.view.ty.Contents Val) :
    m.view.read Val ((m.view.slice r).write Val f w Finset.univ) = upd (m.view.read Val f) r w := by
  funext y
  by_cases h : ∃ x, r.emb x = y
  · obtain ⟨x, rfl⟩ := h
    rw [upd_emb]
    exact View.read_writes_cons_emb m.view f r w [] x
  · have hy : y ∉ r.set := fun hy => h (r.exists_idx_of_mem hy)
    unfold upd
    rw [dif_neg h]
    exact View.read_writes_cons_miss m.view f ⟨r, w⟩ [] y hy

/-- A load of a memref held at contents `X` gives the rectangle of `X`. -/
theorem wp_load_owns {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X)
      ⊢ iprop(((owns c m q X) -∗ wp frame (wpE defs 𝒱 c bd) E (k (fun x => X (r.emb x))) Q)
        -∗ wp frame (wpE defs 𝒱 c bd) E (.op (.load m r.toLoadRect hl) k) Q) := by
  unfold owns
  iintro ⟨%f, %hf, H⟩ K
  subst hf
  iapply (wp_load 𝒱 c bd E (m := m) (r := r.toLoadRect) (S := m.view.set) (m.view.setOn_subset_set _)) $$ H
  iintro H
  iapply K
  iexists f
  isplitr
  · ipureintro; rfl
  · iexact H

/-- A load of a rectangle that reads `X'`. -/
theorem wp_load_to {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e}
    (X' : r.shape.Idx → Val e) (hX : (fun x => X (r.emb x)) = X') :
    (owns c m q X)
      ⊢ iprop(((owns c m q X) -∗ wp frame (wpE defs 𝒱 c bd) E (k X') Q)
        -∗ wp frame (wpE defs 𝒱 c bd) E (.op (.load m r.toLoadRect hl) k) Q) := by
  subst hX
  exact wp_load_owns 𝒱 c bd E

/-- A load of a rectangle that reads `v` throughout. -/
theorem wp_load_word {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} (v : Val e)
    (hv : ∀ x, X (r.emb x) = v) :
    (owns c m q X)
      ⊢ iprop(((owns c m q X) -∗ wp frame (wpE defs 𝒱 c bd) E (k (fun _ => v)) Q)
        -∗ wp frame (wpE defs 𝒱 c bd) E (.op (.load m r.toLoadRect hl) k) Q) := by
  have h : (fun x => X (r.emb x)) = fun _ => v := funext hv
  have := wp_load_owns (defs := defs) 𝒱 c bd E (m := m) (r := r) (hl := hl) (k := k) (q := q) (X := X) (Q := Q)
  rw [h] at this
  exact this

/-- A store through a memref held at contents `X` leaves `upd X r w`. -/
theorem wp_store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X)
      ⊢ iprop(((owns c m fullShare (upd X r w)) -∗ wp frame (wpE defs 𝒱 c bd) E (k ⟨⟩) Q)
        -∗ wp frame (wpE defs 𝒱 c bd) E (.op (.store m r w Finset.univ hx hm) k) Q) := by
  unfold owns
  iintro ⟨%f, %hf, H⟩ K
  subst hf
  iapply (wp_store 𝒱 c bd E (Q := Q) (m := m) (w := w) (hx := hx) (hm := hm) (k := k) (Mk := Finset.univ) (f := f)
    (S := m.view.set) (View.set_slice_subset m.view r)) $$ H
  iintro H
  iapply K
  iexists ((m.view.slice r).write Val f w Finset.univ)
  isplitr
  · ipureintro; exact read_store c m r w f
  · iexact H

/-- A store after which the memref reads `X'`. -/
theorem wp_store_to {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} (X' : s.Idx → Val e) (hX : upd X r w = X') :
    (owns c m fullShare X)
      ⊢ iprop(((owns c m fullShare X') -∗ wp frame (wpE defs 𝒱 c bd) E (k ⟨⟩) Q)
        -∗ wp frame (wpE defs 𝒱 c bd) E (.op (.store m r w Finset.univ hx hm) k) Q) := by
  subst hX
  exact wp_store_owns 𝒱 c bd E

end Rules

end Cert.Proof.K
end
end
-- ==== Proof.K.Words.lean ====
module

public import proofs.«01_k».proof.Proof.Gen.Kernel
public import proofs.«01_k».proof.Proof.Gen.KernelIdeal
public import Idealize.ShloMosaic.Lib.Affine

/-! # The kernel's word arithmetic

The offsets and side conditions of the body, at words in range: a token id below the vocabulary names vocabulary block
`id / 384`, and inside that block row `id - 384 * i`. -/

@[expose] public section

namespace Cert.Proof.K

open Idealize.ShloMosaic Cert.KernelIdeal

/-- A word read as a signed integer that is not negative is its unsigned reading. -/
theorem toNat_of_isInt {a : BitVec 32} {n : ℕ} (h : Affine.IsInt a (n : Int)) : a.toNat = n := by
  unfold Affine.IsInt at h
  have := a.isLt
  rw [BitVec.toInt_eq_toNat_cond] at h
  split at h <;> omega

/-- A word below 2^31 read as a signed integer is its unsigned reading. -/
theorem isInt_of_toNat {a : BitVec 32} (h : a.toNat < 2 ^ 31) : Affine.IsInt a (a.toNat : Int) := by
  unfold Affine.IsInt
  rw [BitVec.toInt_eq_toNat_cond, if_pos (by omega)]

/-- The floor division by 384 of a word that is not negative. -/
theorem off3_eq (v : BitVec 32) (hv : v.toNat < 50304) : k0_off3 v = ![v.toNat / 384] := by
  have hI : Affine.IsInt v (v.toNat : Int) := isInt_of_toNat (by omega)
  have h0 : Affine.IsInt 0#32 (0 : Int) := Affine.ofNat _ (by omega)
  have h384 : Affine.IsInt 384#32 (384 : Int) := Affine.ofNat _ (by omega)
  have h1 : Affine.IsInt 1#32 (1 : Int) := Affine.ofNat _ (by omega)
  have hd : Affine.IsInt (Scalar.divsi v 384#32) ((v.toNat : Int) / 384) := Affine.divsi hI h384 (by omega)
  have hs : Affine.IsInt _ ((v.toNat : Int) / 384 - 1) := Affine.subi hd h1 (by omega)
  have h207 := Affine.extui_holds (e := 1) (Affine.sgt_holds h384 h0 (by omega)) rfl
  have h209 := Affine.extui_fails (e := 0) (Affine.slt_fails h384 h0 (by omega)) rfl
  have h210 := Affine.subi (e := 1) h207 h209 (by omega)
  have hr : Affine.IsInt (Scalar.remsi v 384#32) ((v.toNat : Int) % 384) := Affine.remsi hI h384 (by omega)
  have h204 := Affine.extui_fails (e := 0) (Affine.slt_fails hI h0 (by omega)) rfl
  unfold k0_off3
  by_cases hz : v.toNat = 0
  · have h202 := Affine.extui_fails (e := 0) (Affine.sgt_fails hI h0 (by omega)) rfl
    have h205 := Affine.subi (e := 0) h202 h204 (by omega)
    have hres := Affine.select_fails (e := (v.toNat : Int) / 384)
      (Affine.andi_fails_right (Affine.cmpi_term .ne h205 h210) (Affine.ne_fails hr h0 (by omega))) hs hd rfl
    exact congrArg (fun x => ![x]) (toNat_of_isInt (n := v.toNat / 384) (Affine.indexCast hres))
  · have h202 := Affine.extui_holds (e := 1) (Affine.sgt_holds hI h0 (by omega)) rfl
    have h205 := Affine.subi (e := 1) h202 h204 (by omega)
    have hres := Affine.select_fails (e := (v.toNat : Int) / 384)
      (Affine.andi_fails_left (Affine.ne_fails h205 h210 rfl) (Affine.cmpi_term .ne hr h0)) hs hd rfl
    exact congrArg (fun x => ![x]) (toNat_of_isInt (n := v.toNat / 384) (Affine.indexCast hres))

/-- The block of a token id in range is one of the 131. -/
theorem chk1_of (i : grid0.Coords) (v : BitVec 32) (hv : v.toNat < 50304) : k0_chk1 i v := by
  intro _ a
  rw [off3_eq v hv]
  fin_cases a
  show v.toNat / 384 + 1 ≤ 131
  omega

/-- The induction variable of the linking loop. -/
theorem iv_t2 (k : Fin k0_t2_loop.trips) : k.val < 256 ∧ Affine.IsInt (Scalar.subi 255#32 (Scf.iv 0#32 1#32 k.val)) ((255 - k.val : ℕ) : Int) := by
  have hk : k.val < 256 := Nat.lt_of_lt_of_le k.isLt (by decide)
  refine ⟨hk, ?_⟩
  have h0 : Affine.IsInt 0#32 (0 : Int) := Affine.ofNat _ (by omega)
  have h1 : Affine.IsInt 1#32 (1 : Int) := Affine.ofNat _ (by omega)
  have h255 : Affine.IsInt 255#32 (255 : Int) := Affine.ofNat _ (by omega)
  have hiv : Affine.IsInt (Scf.iv 0#32 1#32 k.val) ((k.val : Int)) := Affine.iv h0 h1 k.val (by omega)
  exact Affine.subi h255 hiv (by omega)

/-- The word the linking loop stores as trip `k`'s token. -/
theorem tok_t2 (k : Fin k0_t2_loop.trips) : Scalar.subi 255#32 (Scf.iv 0#32 1#32 k.val) = BitVec.ofNat 32 (255 - k.val) := by
  apply BitVec.eq_of_toNat_eq
  rw [toNat_of_isInt (iv_t2 k).2, BitVec.toNat_ofNat, Nat.mod_eq_of_lt (by have := (iv_t2 k).1; omega)]

theorem off2_eq (k : Fin k0_t2_loop.trips) : k0_off2 k = ![0, 255 - k.val] := by
  exact congrArg (fun x => ![0, x]) (toNat_of_isInt (n := 255 - k.val) (Affine.indexCast (iv_t2 k).2))

theorem off4_eq (k : Fin k0_t2_loop.trips) : k0_off4 k = ![255 - k.val] := by
  exact congrArg (fun x => ![x]) (toNat_of_isInt (n := 255 - k.val) (Affine.indexCast (iv_t2 k).2))

theorem off1_eq (k : Fin k0_t1_loop.trips) : k.val < 131 ∧ k0_off1 k = ![k.val] := by
  have hk : k.val < 131 := Nat.lt_of_lt_of_le k.isLt (by decide)
  refine ⟨hk, ?_⟩
  have h0 : Affine.IsInt 0#32 (0 : Int) := Affine.ofNat _ (by omega)
  have h1 : Affine.IsInt 1#32 (1 : Int) := Affine.ofNat _ (by omega)
  have hiv : Affine.IsInt (Scf.iv 0#32 1#32 k.val) ((k.val : Int)) := Affine.iv h0 h1 k.val (by omega)
  exact congrArg (fun x => ![x]) (toNat_of_isInt (n := k.val) (Affine.indexCast hiv))

theorem off5_eq (i : grid0.Coords) (r : Fin 3) : k0_off5 i (BitVec.ofNat 32 r.val) = ![3 * (i 0).val + r.val, 0] := by
  have hi : (i 0).val < 131 := (i 0).isLt
  have hr := r.isLt
  have hc : Affine.IsInt (BitVec.ofNat 32 r.val) ((r.val : Int)) := Affine.ofNat _ (by omega)
  have ha : Affine.IsInt (BitVec.ofNat 32 (i 0).val) (((i 0).val : Int)) := Affine.ofNat _ (by omega)
  have h3 : Affine.IsInt 3#32 (3 : Int) := Affine.ofNat _ (by omega)
  have h7 : Affine.IsInt _ (3 * ((i 0).val : Int)) := Affine.muli ha h3 (by omega)
  have h8 : Affine.IsInt _ (3 * ((i 0).val : Int) + (r.val : Int)) := Affine.addi h7 hc (by omega)
  exact congrArg (fun x => ![x, 0]) (toNat_of_isInt (n := 3 * (i 0).val + r.val) (Affine.indexCast h8))

theorem off6_eq (i : grid0.Coords) : k0_off6 i = ![(i 0).val] := by
  have hi : (i 0).val < 131 := (i 0).isLt
  have ha : Affine.IsInt (BitVec.ofNat 32 (i 0).val) (((i 0).val : Int)) := Affine.ofNat _ (by omega)
  exact congrArg (fun x => ![x]) (toNat_of_isInt (n := (i 0).val) (Affine.indexCast ha))

theorem off7_eq (t : ℕ) (ht : t < 256) : k0_off7 (BitVec.ofNat 32 t) = ![0, t] :=
  congrArg (fun x => ![0, x]) (toNat_of_isInt (Affine.indexCast (Affine.ofNat t (by omega))))

theorem off9_eq (t : ℕ) (ht : t < 256) : k0_off9 (BitVec.ofNat 32 t) = ![t, 0] :=
  congrArg (fun x => ![x, 0]) (toNat_of_isInt (Affine.indexCast (Affine.ofNat t (by omega))))

theorem off10_eq (t : ℕ) (ht : t < 256) : k0_off10 (BitVec.ofNat 32 t) = ![t] :=
  congrArg (fun x => ![x]) (toNat_of_isInt (Affine.indexCast (Affine.ofNat t (by omega))))

/-- A token below 256 meets the side condition on list positions. -/
theorem chk2_of (t : ℕ) (ht : t < 256) : k0_chk2 (BitVec.ofNat 32 t) := by
  refine ⟨?_, ?_, ?_⟩ <;> intro a
  · rw [off7_eq t ht]
    fin_cases a
    · show 0 + 1 ≤ 1; omega
    · show t + 1 ≤ 256; omega
  · rw [off9_eq t ht]
    fin_cases a
    · show t + 1 ≤ 256; omega
    · show 0 + 2560 ≤ 2560; omega
  · rw [off10_eq t ht]
    fin_cases a
    show t + 1 ≤ 256; omega

/-- The row inside block `i` of a token id of that block. -/
theorem off8_eq (i : grid0.Coords) (v : BitVec 32) (hv : v.toNat < 50304) (hb : v.toNat / 384 = (i 0).val) :
    k0_off8 i v = ![v.toNat - 384 * (i 0).val, 0] := by
  have hi : (i 0).val < 131 := (i 0).isLt
  have hI : Affine.IsInt v (v.toNat : Int) := isInt_of_toNat (by omega)
  have ha : Affine.IsInt (BitVec.ofNat 32 (i 0).val) (((i 0).val : Int)) := Affine.ofNat _ (by omega)
  have h384 : Affine.IsInt 384#32 (384 : Int) := Affine.ofNat _ (by omega)
  have hm : Affine.IsInt _ (384 * ((i 0).val : Int)) := Affine.muli ha h384 (by omega)
  have hs : Affine.IsInt _ ((v.toNat - 384 * (i 0).val : ℕ) : Int) := Affine.subi hI hm (by omega)
  exact congrArg (fun x => ![x, 0]) (toNat_of_isInt (n := v.toNat - 384 * (i 0).val) (Affine.indexCast hs))

/-- A token id of block `i` meets the side condition on rows. -/
theorem chk3_of (i : grid0.Coords) (v : BitVec 32) (hv : v.toNat < 50304) (hb : v.toNat / 384 = (i 0).val) : k0_chk3 i v := by
  intro a
  rw [off8_eq i v hv hb]
  fin_cases a
  · show v.toNat - 384 * (i 0).val + 1 ≤ 384; omega
  · show 0 + 2560 ≤ 2560; omega

/-- The walk's test holds at a token, -/
theorem sge_tok (t : ℕ) (ht : t < 256) : Scalar.cmpi .sge (BitVec.ofNat 32 t) 0#32 = 1#1 :=
  Affine.sge_holds (Affine.ofNat (e := (t : Int)) t (by omega)) (Affine.ofNat (e := (0 : Int)) 0 (by omega)) (by omega)

/-- and fails at the end mark. -/
theorem sge_end : ¬ Scalar.cmpi .sge 4294967295#32 0#32 = 1#1 := by decide

/-- The preparing branch is taken exactly at the first grid point. -/
theorem cond1_iff (i : grid0.Coords) : k0_cond1 i = 1#1 ↔ (i 0).val = 0 := by
  have hi : (i 0).val < 131 := (i 0).isLt
  have ha : Affine.IsInt (BitVec.ofNat 32 (i 0).val) (((i 0).val : Int)) := Affine.ofNat _ (by omega)
  have h0 : Affine.IsInt 0#32 (0 : Int) := Affine.ofNat _ (by omega)
  constructor
  · intro h
    by_contra hne
    exact Affine.ne_fails (Affine.extui_fails (e := 0) (Affine.eq_fails ha h0 (by omega)) rfl) h0 rfl h
  · intro h
    exact Affine.ne_holds (Affine.extui_holds (e := 1) (Affine.eq_holds ha h0 (by omega)) rfl) h0 (by omega)

end Cert.Proof.K
end
-- ==== Proof.K.Model.lean ====
module

public import proofs.«01_k».proof.Proof.K.Owns
public import proofs.«01_k».proof.Proof.K.Words
public import proofs.«01_k».proof.Proof.Gen.KernelIdeal.Skeleton
public import Idealize.ShloMosaic.Lib.ValueIdxCore
public import Idealize.ShloMosaic.Lib.Pipeline.Value

/-! # What the body computes, as functions of the arrays

The linked lists of tokens per vocabulary block (`lst`, `Chain`, `Linked`), one row addition (`rowAdd`), the scaled
hidden states (`hhP`), and the output block of a grid point (`outBlk`). -/

@[expose] public section
noncomputable section

namespace Cert.Proof.K

open Idealize.ShloMosaic Cert.KernelIdeal Cert.KernelIdeal.Gen
open Idealize.ShloMosaic.ValueIdx

/-! ## Stores at literal rectangles -/

/-- One word of a rank-1 array replaced. -/
theorem upd_word {α : Type} {n o : ℕ} (X : (⟨1, ![n]⟩ : Shape).Idx → α) (off : Fin 1 → ℕ)
    (inb : ∀ a, off a + S1.size a ≤ (⟨1, ![n]⟩ : Shape).size a) (w : α) (b : Fin n) (hoff : off = ![o]) :
    upd X (Rect.unit (s := ⟨1, ![n]⟩) off S1.size inb) (fun _ => w) (ix1 b) = if b.val = o then w else X (ix1 b) := by
  subst hoff
  by_cases h : b.val = o
  · rw [if_pos h]
    refine upd_hit X (Rect.unit (s := ⟨1, ![n]⟩) ![o] S1.size inb) (fun _ => w) (ix1 b) (ix1 (⟨0, by omega⟩ : Fin 1)) fun a => ?_
    fin_cases a
    show b.val = o + 1 * 0
    omega
  · rw [if_neg h]
    refine upd_miss X (Rect.unit (s := ⟨1, ![n]⟩) ![o] S1.size inb) (fun _ => w) (ix1 b) 0 rfl ?_
    show b.val < o ∨ o + 1 ≤ b.val
    omega

/-- The word of a rank-1 array at a literal rectangle. -/
theorem emb_word {n o : ℕ} (off : Fin 1 → ℕ) (inb : ∀ a, off a + S1.size a ≤ (⟨1, ![n]⟩ : Shape).size a) (hoff : off = ![o])
    (ho : o < n) (x : (Rect.unit (s := ⟨1, ![n]⟩) off S1.size inb).shape.Idx) :
    (Rect.unit (s := ⟨1, ![n]⟩) off S1.size inb).emb x = ix1 (⟨o, ho⟩ : Fin n) := by
  subst hoff
  refine Rect.emb_eq_of_coords _ x _ fun a => ?_
  fin_cases a
  show o = o + 1 * (x 0).val
  have : (x 0).val < 1 := (x 0).isLt
  omega

/-- The word of a one-row array at a literal rectangle. -/
theorem emb_word2 {n o : ℕ} (off : Fin 2 → ℕ) (inb : ∀ a, off a + S1x1.size a ≤ (⟨2, ![1, n]⟩ : Shape).size a) (hoff : off = ![0, o])
    (ho : o < n) (x : (Rect.unit (s := ⟨2, ![1, n]⟩) off S1x1.size inb).shape.Idx) :
    (Rect.unit (s := ⟨2, ![1, n]⟩) off S1x1.size inb).emb x = ix2 (0 : Fin 1) (⟨o, ho⟩ : Fin n) := by
  subst hoff
  refine Rect.emb_eq_of_coords _ x _ fun a => ?_
  fin_cases a
  · show 0 = 0 + 1 * (x 0).val
    have : (x 0).val < 1 := (x 0).isLt
    omega
  · show o = o + 1 * (x 1).val
    have : (x 1).val < 1 := (x 1).isLt
    omega

/-- A row of a rank-2 array at a literal rectangle of one row. -/
theorem emb_row {n m o : ℕ} (off : Fin 2 → ℕ) (size : Fin 2 → ℕ)
    (inb : ∀ a, off a + size a ≤ (⟨2, ![n, m]⟩ : Shape).size a) (hsize : size = ![1, m]) (hoff : off = ![o, 0])
    (ho : o < n) (x : (Rect.unit (s := ⟨2, ![n, m]⟩) off size inb).shape.Idx) (d : Fin m) (hd : (x 1).val = d.val) :
    (Rect.unit (s := ⟨2, ![n, m]⟩) off size inb).emb x = ix2 (⟨o, ho⟩ : Fin n) d := by
  subst hoff hsize
  refine Rect.emb_eq_of_coords _ x _ fun a => ?_
  fin_cases a
  · show o = o + 1 * (x 0).val
    have : (x 0).val < 1 := (x 0).isLt
    omega
  · show d.val = 0 + 1 * (x 1).val
    omega

/-- The index of a whole array through the rectangle of the whole array. -/
theorem emb_full {n m : ℕ} (inb : ∀ a, (![0, 0] : Fin 2 → ℕ) a + (![n, m] : Fin 2 → ℕ) a ≤ (⟨2, ![n, m]⟩ : Shape).size a)
    (x : (Rect.unit (s := ⟨2, ![n, m]⟩) ![0, 0] ![n, m] inb).shape.Idx) :
    (Rect.unit (s := ⟨2, ![n, m]⟩) ![0, 0] ![n, m] inb).emb x = x := by
  refine Rect.emb_eq_of_coords _ x _ fun a => ?_
  fin_cases a
  · show (x 0).val = 0 + 1 * (x 0).val
    omega
  · show (x 1).val = 0 + 1 * (x 1).val
    omega

/-! ## The linked lists -/

/-- The id of token `t`. -/
def idn (X : S1x256.Idx → BitVec 32) (t : ℕ) : BitVec 32 := if h : t < 256 then X (ix2 (0 : Fin 1) (⟨t, h⟩ : Fin 256)) else 0#32

/-- Every token id is below the vocabulary. -/
def IdsOk (X : S1x256.Idx → BitVec 32) : Prop := ∀ t : ℕ, (idn X t).toNat < 50304

/-- Among the last `k` of the 256 tokens, the ones of vocabulary block `b`, ascending. -/
def lst (X : S1x256.Idx → BitVec 32) (b : ℕ) : ℕ → List ℕ
  | 0 => []
  | k + 1 => if (idn X (255 - k)).toNat / 384 = b then (255 - k) :: lst X b k else lst X b k

/-- Its members are tokens of block `b` from `256 - k` on. -/
theorem mem_lst (X : S1x256.Idx → BitVec 32) (b : ℕ) : ∀ k ≤ 256, ∀ t ∈ lst X b k,
    256 - k ≤ t ∧ t < 256 ∧ (idn X t).toNat / 384 = b
  | 0, _, t, h => by simp [lst] at h
  | k + 1, hk, t, h => by
    unfold lst at h
    split at h
    · rename_i hb
      rcases List.mem_cons.mp h with rfl | h
      · exact ⟨by omega, by omega, hb⟩
      · have := mem_lst X b k (by omega) t h
        exact ⟨by omega, this.2⟩
    · have := mem_lst X b k (by omega) t h
      exact ⟨by omega, this.2⟩

/-- Starting from word `v`, following `N` visits exactly the tokens of the list and then the end mark. -/
def Chain (N : S256.Idx → BitVec 32) : BitVec 32 → List ℕ → Prop
  | v, [] => v = 4294967295#32
  | v, t :: L => v = BitVec.ofNat 32 t ∧ ∃ h : t < 256, Chain N (N (ix1 (⟨t, h⟩ : Fin 256))) L

/-- A chain does not notice a change of `N` outside its tokens. -/
theorem Chain.congr {N N' : S256.Idx → BitVec 32} : ∀ {L : List ℕ} {v : BitVec 32},
    (∀ t ∈ L, ∀ h : t < 256, N' (ix1 (⟨t, h⟩ : Fin 256)) = N (ix1 (⟨t, h⟩ : Fin 256))) → Chain N v L → Chain N' v L
  | [], _, _, h => h
  | t :: L, v, hN, h => by
    obtain ⟨hv, ht, hc⟩ := h
    refine ⟨hv, ht, ?_⟩
    rw [hN t List.mem_cons_self ht]
    exact Chain.congr (fun t' h' => hN t' (List.mem_cons_of_mem _ h')) hc

/-- After `k` trips of the linking loop, every block's head starts the chain of its tokens among the last `k`. -/
def Linked (X : S1x256.Idx → BitVec 32) (k : ℕ) (H : S131.Idx → BitVec 32) (N : S256.Idx → BitVec 32) : Prop :=
  ∀ b : Fin 131, Chain N (H (ix1 b)) (lst X b.val k)

theorem linked_zero (X : S1x256.Idx → BitVec 32) (H : S131.Idx → BitVec 32) (N : S256.Idx → BitVec 32)
    (h : ∀ b : Fin 131, H (ix1 b) = 4294967295#32) : Linked X 0 H N := fun b => h b

/-- One trip: the token is put in front of its block's list. -/
theorem linked_step (X : S1x256.Idx → BitVec 32) (k : ℕ) (hk : k < 256) (H H' : S131.Idx → BitVec 32) (N N' : S256.Idx → BitVec 32)
    (hid : (idn X (255 - k)).toNat < 50304) (hL : Linked X k H N)
    (hH : ∀ b : Fin 131, H' (ix1 b) = if b.val = (idn X (255 - k)).toNat / 384 then BitVec.ofNat 32 (255 - k) else H (ix1 b))
    (hN : ∀ t : Fin 256, N' (ix1 t) = if t.val = 255 - k then
      H (ix1 (⟨(idn X (255 - k)).toNat / 384, by omega⟩ : Fin 131)) else N (ix1 t)) :
    Linked X (k + 1) H' N' := by
  intro b
  have hcongr : Chain N' (H (ix1 b)) (lst X b.val k) := by
    refine Chain.congr (fun t ht h => ?_) (hL b)
    have := mem_lst X b.val k (by omega) t ht
    rw [hN, if_neg (by show ¬ t = 255 - k; omega)]
  unfold lst
  by_cases hb : (idn X (255 - k)).toNat / 384 = b.val
  · rw [if_pos hb]
    refine ⟨by rw [hH, if_pos hb.symm], by omega, ?_⟩
    rw [hN, if_pos rfl]
    have hb' : (⟨(idn X (255 - k)).toNat / 384, by omega⟩ : Fin 131) = b := Fin.ext hb
    rw [hb']
    exact hcongr
  · rw [if_neg hb, hH, if_neg (fun h => hb h.symm)]
    exact hcongr

/-! ## The arrays -/

variable {F : FTy → Type} [FloatOps F]

/-- Row `o` of the block gains row `t` of the embedding gradient. -/
def rowAdd (D : S256x2560.Idx → F .f32) (X : S384x2560.Idx → F .f32) (o t : ℕ) : S384x2560.Idx → F .f32 :=
  fun y => if h : (y 0).val = o ∧ t < 256 then FloatOps.addf (X y) (D (ix2 (⟨t, h.2⟩ : Fin 256) (y 1 : Fin 2560))) else X y

/-- The tokens of a list added, in the list's order. -/
def rowsAdd (X1 : S1x256.Idx → BitVec 32) (i : ℕ) (D : S256x2560.Idx → F .f32) : List ℕ → (S384x2560.Idx → F .f32) → (S384x2560.Idx → F .f32)
  | [], X => X
  | t :: L, X => rowsAdd X1 i D L (rowAdd D X ((idn X1 t).toNat - 384 * i) t)

/-- One pass of the walk stores exactly one `rowAdd`. -/
theorem rowAdd_upd (D : S256x2560.Idx → F .f32) (X : S384x2560.Idx → F .f32) (o t : ℕ) (ho : o < 384) (ht : t < 256)
    (off off' : Fin 2 → ℕ) (hoff : off = ![o, 0]) (hoff' : off' = ![t, 0])
    (inb : ∀ a, off a + S1x2560.size a ≤ S384x2560.size a) (inb' : ∀ a, off' a + S1x2560.size a ≤ S256x2560.size a) :
    upd X (Rect.unit (s := S384x2560) off S1x2560.size inb)
      (k0_pay5 (F := F) (fun x => X ((Rect.unit (s := S384x2560) off S1x2560.size inb).emb x))
        (fun x => D ((Rect.unit (s := S256x2560) off' S1x2560.size inb').emb x)))
      = rowAdd D X o t := by
  subst hoff hoff'
  funext y
  unfold rowAdd
  by_cases h : (y 0).val = o
  · rw [dif_pos ⟨h, ht⟩]
    have hx : ∀ a, (y a).val = (Rect.unit (s := S384x2560) ![o, 0] S1x2560.size inb).off a
        + (Rect.unit (s := S384x2560) ![o, 0] S1x2560.size inb).stride a * ((ix2 (0 : Fin 1) (y 1 : Fin 2560) : S1x2560.Idx) a).val := by
      intro a
      fin_cases a
      · show (y 0).val = o + 1 * 0
        omega
      · show (y 1).val = 0 + 1 * (y 1).val
        omega
    rw [upd_hit X _ _ y (ix2 (0 : Fin 1) (y 1 : Fin 2560) : S1x2560.Idx) hx]
    unfold k0_pay5
    simp only [shapeCast_self]
    show FloatOps.addf (X _) (D _) = _
    rw [emb_row (m := 2560) ![o, 0] S1x2560.size inb rfl rfl ho _ (y 1) rfl,
      emb_row (m := 2560) ![t, 0] S1x2560.size inb' rfl rfl ht _ (y 1) rfl]
    congr 2
    have : (⟨o, ho⟩ : Fin 384) = y 0 := Fin.ext h.symm
    rw [this]
    exact (eq_ix2 (n0 := 384) (n1 := 2560) y).symm
  · rw [dif_neg (fun h' => h h'.1)]
    refine upd_miss X _ _ y 0 rfl ?_
    show (y 0).val < o ∨ o + 1 ≤ (y 0).val
    omega

/-- The scaled hidden states: each code widened, times its token's scale narrowed to bf16. -/
def hhP (h : S256x2560.Idx → F .fp8e4m3) (hs : S1x256.Idx → F .f32) : S256x2560.Idx → F .bf16 :=
  fun y => FloatOps.mulf (FloatOps.extf .bf16 bitsLt_fp8e4m3_bf16 (h y)) (FloatOps.truncf .bf16 bitsLt_bf16_f32 (hs (ix2 (0 : Fin 1) (y 0 : Fin 256))))

/-- The embedding gradient widened. -/
def d32P (d : S256x2560.Idx → F .bf16) : S256x2560.Idx → F .f32 := fun y => FloatOps.extf .f32 bitsLt_bf16_f32 (d y)

/-- Row `j` of the scales: the scale of every token for the 128 columns of chunk `j`. -/
def scRow (dls : S256x393.Idx → F .f32) (j : ℕ) (hj : j < 393) : S1x256.Idx → F .f32 :=
  fun x => dls (ix2 (x 1 : Fin 256) (⟨j, hj⟩ : Fin 393))

/-- The output block of grid point `i`: the product of the scaled logit gradients and hidden states, plus the rows of the
embedding gradient of the block's tokens. -/
def outBlk (i : grid0.Coords) (ids : S1x256.Idx → BitVec 32) (dl : S256x384.Idx → F .fp8e5m2) (dls : S256x393.Idx → F .f32)
    (h : S256x2560.Idx → F .fp8e4m3) (hs : S1x256.Idx → F .f32) (d : S256x2560.Idx → F .bf16) : S384x2560.Idx → F .f32 :=
  rowsAdd ids (i 0).val (d32P d) (lst ids (i 0).val 256)
    (k0_pay4 (F := F) dl (scRow dls (3 * (i 0).val) (by have : (i 0).val < 131 := (i 0).isLt; omega))
      (scRow dls (3 * (i 0).val + 1) (by have : (i 0).val < 131 := (i 0).isLt; omega))
      (scRow dls (3 * (i 0).val + 2) (by have : (i 0).val < 131 := (i 0).isLt; omega)) (hhP h hs))

end Cert.Proof.K
end
end
-- ==== Proof.K.Pre.lean ====
module

public import proofs.«01_k».proof.Proof.Gen.Pre_pre
public import proofs.«01_k».proof.Proof.K.Model

/-! # The precondition

It says of every token id that it is at least 0 and below the vocabulary's 50304 rows. -/

@[expose] public section

namespace Cert.Proof.K

open Idealize.ShloMosaic Idealize.ShloMosaic.ValueIdx Cert.KernelIdeal

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by
  cases p <;> decide

variable {F : FTy → Type} [FloatOps F]

/-- Under the precondition every token id, read unsigned, is below the vocabulary. -/
theorem id_lt (a0 : FVec F Cert.Pre_pre.S1x256x50304 .fp8e5m2) (a1 : FVec F Cert.Pre_pre.S1x256x393 .f32)
    (a2 : FVec F Cert.Pre_pre.S1x256x2560 .fp8e4m3) (a3 : FVec F Cert.Pre_pre.S1x256 .f32) (ids : IVec Cert.Pre_pre.S1x256 32)
    (a5 : FVec F Cert.Pre_pre.S1x256x2560 .bf16)
    (h : Cert.Pre_pre.fn (F := F) a0 a1 a2 a3 ids a5 = fun _ => 1#1) (y : Cert.Pre_pre.S1x256.Idx) : (ids y).toNat < 50304 := by
  have e := congrFun h y
  simp only [Cert.Pre_pre.fn, andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  have := (ids y).isLt
  omega

/-- The same as the body's proof asks for it. -/
theorem ids_ok (a0 : FVec F Cert.Pre_pre.S1x256x50304 .fp8e5m2) (a1 : FVec F Cert.Pre_pre.S1x256x393 .f32)
    (a2 : FVec F Cert.Pre_pre.S1x256x2560 .fp8e4m3) (a3 : FVec F Cert.Pre_pre.S1x256 .f32) (ids : IVec Cert.Pre_pre.S1x256 32)
    (a5 : FVec F Cert.Pre_pre.S1x256x2560 .bf16)
    (h : Cert.Pre_pre.fn (F := F) a0 a1 a2 a3 ids a5 = fun _ => 1#1) : IdsOk ids := by
  intro t
  unfold idn
  split
  · exact id_lt a0 a1 a2 a3 ids a5 h _
  · decide

end Cert.Proof.K
end
-- ==== Proof.K.Columns.lean ====
module

public import proofs.«01_k».proof.Proof.K.Model

/-! # The arrays the first grid point prepares

The hidden states are scaled 128 columns at a time and the scales are transposed; these lemmas say what the stores leave. -/

@[expose] public section
noncomputable section

namespace Cert.Proof.K

open Idealize.ShloMosaic Cert.KernelIdeal Cert.KernelIdeal.Gen
open Idealize.ShloMosaic.ValueIdx

variable {F : FTy → Type} [FloatOps F]

/-- Every token's scale, narrowed to bf16, along a row of 128. -/
theorem pay6_apply (hs : S1x256.Idx → F .f32) (x : S256x128.Idx) :
    k0_pay6 (F := F) hs x = FloatOps.truncf .bf16 bitsLt_bf16_f32 (hs (ix2 (0 : Fin 1) (x 0 : Fin 256))) := by
  unfold k0_pay6
  show FloatOps.truncf .bf16 bitsLt_bf16_f32 _ = _
  congr 1
  rw [shapeCast_self, transpose_apply (t := S256x128) (s := S128x256) [1, 0] _ _ x (ix2 (x 1 : Fin 128) (x 0 : Fin 256))
    (fun b => by fin_cases b <;> rfl)]
  exact broadcastTo_apply (s := S1x256) (t := S128x256) hs _ _ _ (fun a => by fin_cases a <;> rfl)

/-- A column group of the codes, scaled. -/
def colW (hs : S1x256.Idx → F .f32) (v : S256x128.Idx → F .fp8e4m3) : S256x128.Idx → F .bf16 :=
  fun x => FloatOps.mulf (FloatOps.extf .bf16 bitsLt_fp8e4m3_bf16 (v x))
    (FloatOps.truncf .bf16 bitsLt_bf16_f32 (hs (ix2 (0 : Fin 1) (x 0 : Fin 256))))

/-- The kernel's product of a widened column group and the scales. -/
theorem col_eq (hs : S1x256.Idx → F .f32) (v : S256x128.Idx → F .fp8e4m3) :
    mulf (extf (s := S256x128) .bf16 v bitsLt_fp8e4m3_bf16) (k0_pay6 (F := F) hs) = colW hs v := by
  funext x
  show FloatOps.mulf _ (k0_pay6 (F := F) hs x) = _
  rw [pay6_apply]
  rfl

/-- The first `n` columns of `X` are the scaled hidden states. -/
def ColsOk (h : S256x2560.Idx → F .fp8e4m3) (hs : S1x256.Idx → F .f32) (n : ℕ) (X : S256x2560.Idx → F .bf16) : Prop :=
  ∀ y : S256x2560.Idx, (y 1).val < n → X y = hhP h hs y

/-- Storing the next 128 columns. -/
theorem cols_step (h : S256x2560.Idx → F .fp8e4m3) (hs : S1x256.Idx → F .f32) (n : ℕ) (X : S256x2560.Idx → F .bf16)
    (inb : ∀ a, (![0, n] : Fin 2 → ℕ) a + S256x128.size a ≤ S256x2560.size a) (hX : ColsOk h hs n X) :
    ColsOk h hs (n + 128) (upd X (Rect.unit (s := S256x2560) ![0, n] S256x128.size inb)
      (colW hs fun x => h ((Rect.unit (s := S256x2560) ![0, n] S256x128.size inb).emb x))) := by
  intro y hy
  by_cases hn : (y 1).val < n
  · rw [upd_miss X _ _ y 1 rfl (Or.inl hn)]
    exact hX y hn
  · have hx : ∀ a, (y a).val = (Rect.unit (s := S256x2560) ![0, n] S256x128.size inb).off a
        + (Rect.unit (s := S256x2560) ![0, n] S256x128.size inb).stride a
          * ((ix2 (y 0 : Fin 256) (⟨(y 1).val - n, by omega⟩ : Fin 128)) a).val := by
      intro a
      fin_cases a
      · show (y 0).val = 0 + 1 * (y 0).val
        omega
      · show (y 1).val = n + 1 * ((y 1).val - n)
        omega
    rw [upd_hit X (Rect.unit (s := S256x2560) ![0, n] S256x128.size inb) _ y
      (ix2 (y 0 : Fin 256) (⟨(y 1).val - n, by omega⟩ : Fin 128)) hx]
    exact congrArg (fun z => FloatOps.mulf (FloatOps.extf .bf16 bitsLt_fp8e4m3_bf16 (h z))
      (FloatOps.truncf .bf16 bitsLt_bf16_f32 (hs (ix2 (0 : Fin 1) (y 0 : Fin 256)))))
      (Rect.emb_eq_of_coords (Rect.unit (s := S256x2560) ![0, n] S256x128.size inb) _ y hx)

/-- All 2560 columns stored: the array is the scaled hidden states. -/
theorem cols_full (h : S256x2560.Idx → F .fp8e4m3) (hs : S1x256.Idx → F .f32) (X : S256x2560.Idx → F .bf16)
    (hX : ColsOk h hs 2560 X) : X = hhP h hs :=
  funext fun y => hX y (y 1).isLt

/-- The first 393 rows of `X` are the columns of the scales. -/
def RowsOk (dls : S256x393.Idx → F .f32) (X : S400x256.Idx → F .f32) : Prop :=
  ∀ (j : ℕ) (hj : j < 393) (t : Fin 256), X (ix2 (⟨j, by omega⟩ : Fin 400) t) = dls (ix2 t (⟨j, hj⟩ : Fin 393))

/-- The store of the transposed scales. -/
theorem rows_store (dls : S256x393.Idx → F .f32) (X : S400x256.Idx → F .f32)
    (inb : ∀ a, (![0, 0] : Fin 2 → ℕ) a + S393x256.size a ≤ S400x256.size a) :
    RowsOk dls (upd X (Rect.unit (s := S400x256) ![0, 0] S393x256.size inb) (k0_pay3 (F := F) dls)) := by
  intro j hj t
  rw [upd_hit X (Rect.unit (s := S400x256) ![0, 0] S393x256.size inb) _ _ (ix2 (⟨j, hj⟩ : Fin 393) t) (fun a => by
    fin_cases a
    · show j = 0 + 1 * j
      omega
    · show t.val = 0 + 1 * t.val
      omega)]
  unfold k0_pay3
  simp only [shapeCast_self]
  exact transpose_apply (t := S393x256) (s := S256x393) [1, 0] dls _ _ _ (fun b => by fin_cases b <;> rfl)

/-- A row of the transposed scales, loaded. -/
theorem row_load (dls : S256x393.Idx → F .f32) (X : S400x256.Idx → F .f32) (hX : RowsOk dls X) (j : ℕ) (hj : j < 393)
    (off : Fin 2 → ℕ) (hoff : off = ![j, 0]) (inb : ∀ a, off a + S1x256.size a ≤ S400x256.size a) :
    (fun x => X ((Rect.unit (s := S400x256) off S1x256.size inb).emb x)) = scRow dls j hj := by
  funext x
  rw [emb_row (m := 256) off S1x256.size inb rfl hoff (by omega : j < 400) x (x 1) rfl]
  exact hX j hj (x 1)

/-- The widened embedding gradient, as the kernel writes it. -/
theorem pay2_eq (d : S256x2560.Idx → F .bf16) : k0_pay2 (F := F) d = d32P d := by
  unfold k0_pay2
  simp only [shapeCast_self]
  rfl

/-- A store of a whole array. -/
theorem upd_full {α : Type} {n m : ℕ} (X : (⟨2, ![n, m]⟩ : Shape).Idx → α)
    (inb : ∀ a, (![0, 0] : Fin 2 → ℕ) a + (![n, m] : Fin 2 → ℕ) a ≤ (⟨2, ![n, m]⟩ : Shape).size a)
    (w : (⟨2, ![n, m]⟩ : Shape).Idx → α) :
    upd X (Rect.unit (s := ⟨2, ![n, m]⟩) ![0, 0] ![n, m] inb) w = w := by
  funext y
  exact upd_hit X (Rect.unit (s := ⟨2, ![n, m]⟩) ![0, 0] ![n, m] inb) w y y (fun a => by
    fin_cases a
    · show (y 0).val = 0 + 1 * (y 0).val
      omega
    · show (y 1).val = 0 + 1 * (y 1).val
      omega)

/-- A load of a whole array. -/
theorem load_full {α : Type} {n m : ℕ} (X : (⟨2, ![n, m]⟩ : Shape).Idx → α)
    (inb : ∀ a, (![0, 0] : Fin 2 → ℕ) a + (![n, m] : Fin 2 → ℕ) a ≤ (⟨2, ![n, m]⟩ : Shape).size a) :
    (fun x => X ((Rect.unit (s := ⟨2, ![n, m]⟩) ![0, 0] ![n, m] inb).emb x)) = X :=
  funext fun x => congrArg X (emb_full inb x)

end Cert.Proof.K
end
end
-- ==== Proof.K.IdealWalk.lean ====
module

public import proofs.«01_k».proof.Proof.K.Model
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.Kit
public import Idealize.ShloMosaic.Lib.Pipeline.Frame
public import Idealize.ShloMosaic.Lib.Pipeline.FrameBody
public import Idealize.ShloMosaic.Lib.Pipeline.Sound

/-! # `KernelIdeal`: the walk over a block's tokens and the two counted loops

The walk (the `while` of the body) follows the links from a block's head and adds one row per token; the first counted
loop clears the heads, the second links every token in front of its block's list. -/

@[expose] public section
noncomputable section

namespace Cert.Proof.KI

open Cert.KernelIdeal Cert.KernelIdeal.Gen Cert.Proof.K
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The variants of the walk's recursion: the number of tokens left. -/
abbrev 𝒱₀ : Variants := Variants.nat

section Walk

variable (c : Dev nD) (i : grid0.Coords)
  (arg1 : Memref sig .tc .smem S1x256 .i32) (harg1 : arg1.IsWhole) (arg7 : Memref sig .tc .vmem S384x2560 .f32) (harg7 : arg7.IsWhole)
  (arg10 : Memref sig .tc .vmem S256x2560 .f32) (harg10 : arg10.IsWhole) (arg12 : Memref sig .tc .smem S256 .i32) (harg12 : arg12.IsWhole)
  (X1 : S1x256.Idx → BitVec 32) (X10 : S256x2560.Idx → F .f32) (N : S256.Idx → BitVec 32)

/-- What the walk holds: the ids, the block at `X7`, the widened embedding gradient, the links. -/
def held (X7 : S384x2560.Idx → F .f32) : sProp 𝕄 :=
  iprop(owns (c : Thread nD τ) arg1 fullShare X1 ∗ owns (c : Thread nD τ) arg7 fullShare X7
    ∗ owns (c : Thread nD τ) arg10 fullShare X10 ∗ owns (c : Thread nD τ) arg12 fullShare N)

/-- The walk's specification with the tokens `L` to visit: the block gains their rows. -/
def spec (L : List ℕ) (X7 : S384x2560.Idx → F .f32) : sWPT 𝕄 (BitVec 32) := do
  sWPT.consume (held c arg1 arg7 arg10 arg12 X1 X10 N X7)
  let r ← sWPT.arbitrary
  sWPT.produce (held c arg1 arg7 arg10 arg12 X1 X10 N (rowsAdd X1 (i 0).val X10 L X7))
  pure r

theorem spec_apply (L : List ℕ) (X7 : S384x2560.Idx → F .f32) (K : BitVec 32 → sProp 𝕄) :
    spec c i arg1 arg7 arg10 arg12 X1 X10 N L X7 K
      = iprop(held c arg1 arg7 arg10 arg12 X1 X10 N X7
        ∗ ∀ r : BitVec 32, (held c arg1 arg7 arg10 arg12 X1 X10 N (rowsAdd X1 (i 0).val X10 L X7) -∗ K r)) := rfl

/-- The walk meets its specification, by induction on the tokens left. -/
theorem spec_le (E : Set ℕ) : ∀ (L : List ℕ) (p : BitVec 32), Chain N p L →
    (∀ t ∈ L, (idn X1 t).toNat < 50304 ∧ (idn X1 t).toNat / 384 = (i 0).val) → ∀ X7 K,
    spec c i arg1 arg7 arg10 arg12 X1 X10 N L X7 K
      ⊢ wp frame (wpE (defs₀ (F := F)) 𝒱₀ (c : Thread nD τ) (some L.length)) E
          (defs₀ (F := F) .tc 1 ⟨i, arg1, harg1, arg7, harg7, arg10, harg10, arg12, harg12, p⟩) K := by
  intro L
  induction L with
  | nil =>
    intro p hp _ X7 K
    rw [spec_apply]
    show _ ⊢ wp frame (wpE (defs₀ (F := F)) 𝒱₀ (c : Thread nD τ) (some 0)) E
      (cc0_while1 i arg1 harg1 arg7 harg7 arg10 harg10 arg12 harg12 p) K
    simp only [cc0_while1_eq_skeleton]; unfold cc0_while1_skel
    have htest : ¬ Scalar.cmpi .sge p 0#32 = 1#1 := by rw [show p = 4294967295#32 from hp]; exact sge_end
    simp only [htest, ↓reduceIte, Prog.pure_eq_ret]
    iintro ⟨H, Hk⟩
    rw [wp_ret]; imodintro
    iapply Hk
    simp only [rowsAdd]; iexact H
  | cons t L ih =>
    intro p hp hL X7 K
    obtain ⟨hv, ht, hc⟩ := hp
    subst hv
    obtain ⟨hid, hblk⟩ := hL t List.mem_cons_self
    have hidn : idn X1 t = X1 (ix2 (0 : Fin 1) (⟨t, ht⟩ : Fin 256)) := by unfold idn; rw [dif_pos ht]
    rw [spec_apply]
    show _ ⊢ wp frame (wpE (defs₀ (F := F)) 𝒱₀ (c : Thread nD τ) (some (L.length + 1))) E
      (cc0_while1 i arg1 harg1 arg7 harg7 arg10 harg10 arg12 harg12 (BitVec.ofNat 32 t)) K
    simp only [cc0_while1_eq_skeleton]; unfold cc0_while1_skel
    have htest : Scalar.cmpi .sge (BitVec.ofNat 32 t) 0#32 = 1#1 := sge_tok t ht
    simp only [htest, ↓reduceIte, smemLoad, smemLoadElt, Prog.lift, Prog.bind_op, Prog.bind_ret, Prog.pure_eq_ret]
    unfold held
    iintro ⟨⟨H1, H7, H10, H12⟩, Hk⟩
    iapply (wp_assume 𝒱₀ (c : Thread nD τ) (some (L.length + 1)) E (chk2_of t ht))
    iapply (wp_load_word 𝒱₀ (c : Thread nD τ) (some (L.length + 1)) E (m := arg1) (idn X1 t)
      (fun x => by exact (congrArg X1 (emb_word2 _ _ (off7_eq t ht) ht x)).trans hidn.symm)) $$ H1; iintro H1
    iapply (wp_assume 𝒱₀ (c : Thread nD τ) (some (L.length + 1)) E (chk3_of i (idn X1 t) hid hblk))
    iapply (wp_load_owns 𝒱₀ (c : Thread nD τ) (some (L.length + 1)) E (m := arg7)) $$ H7; iintro H7
    iapply (wp_load_owns 𝒱₀ (c : Thread nD τ) (some (L.length + 1)) E (m := arg10)) $$ H10; iintro H10
    iapply (wp_load_owns 𝒱₀ (c : Thread nD τ) (some (L.length + 1)) E (m := arg7)) $$ H7; iintro H7
    iapply (wp_store_to 𝒱₀ (c : Thread nD τ) (some (L.length + 1)) E (m := arg7)
      (rowAdd X10 X7 ((idn X1 t).toNat - 384 * (i 0).val) t)
      (by exact rowAdd_upd X10 X7 ((idn X1 t).toNat - 384 * (i 0).val) t (by omega) ht _ _ (off8_eq i (idn X1 t) hid hblk)
            (off9_eq t ht) _ _)) $$ H7; iintro H7
    iapply (wp_load_word 𝒱₀ (c : Thread nD τ) (some (L.length + 1)) E (m := arg12) (N (ix1 (⟨t, ht⟩ : Fin 256)))
      (fun x => by exact congrArg N (emb_word _ _ (off10_eq t ht) ht x))) $$ H12; iintro H12
    iapply (wp_call_spec 𝒱₀ (c : Thread nD τ) (some (L.length + 1)) E
      (spec c i arg1 arg7 arg10 arg12 X1 X10 N L (rowAdd X10 X7 ((idn X1 t).toNat - 384 * (i 0).val) t)) L.length
      (fun u hu => by cases hu; exact Nat.lt_succ_self L.length)
      (ih _ hc (fun t' h' => hL t' (List.mem_cons_of_mem _ h')) (rowAdd X10 X7 ((idn X1 t).toNat - 384 * (i 0).val) t)))
    rw [spec_apply]; unfold held
    isplitl [H1 H7 H10 H12]
    · isplitl [H1]; · iexact H1
      isplitl [H7]; · iexact H7
      isplitl [H10]; · iexact H10
      iexact H12
    iintro %r H
    rw [wp_ret]; imodintro
    iapply Hk
    simp only [rowsAdd]
    iexact H

end Walk

section Loops

variable (c : Dev nD) (i : grid0.Coords) (arg1 : Memref sig .tc .smem S1x256 .i32) (harg1 : arg1.IsWhole) (arg2 : Memref sig .tc .vmem S256x384 .fp8e5m2) (harg2 : arg2.IsWhole) (arg3 : Memref sig .tc .vmem S256x393 .f32) (harg3 : arg3.IsWhole) (arg4 : Memref sig .tc .vmem S256x2560 .fp8e4m3) (harg4 : arg4.IsWhole) (arg5 : Memref sig .tc .vmem S1x256 .f32) (harg5 : arg5.IsWhole) (arg6 : Memref sig .tc .vmem S256x2560 .bf16) (harg6 : arg6.IsWhole) (arg7 : Memref sig .tc .vmem S384x2560 .f32) (harg7 : arg7.IsWhole) (arg8 : Memref sig .tc .vmem S256x2560 .bf16) (harg8 : arg8.IsWhole) (arg9 : Memref sig .tc .vmem S400x256 .f32) (harg9 : arg9.IsWhole) (arg10 : Memref sig .tc .vmem S256x2560 .f32) (harg10 : arg10.IsWhole) (arg11 : Memref sig .tc .smem S131 .i32) (harg11 : arg11.IsWhole) (arg12 : Memref sig .tc .smem S256 .i32) (harg12 : arg12.IsWhole) (k0_h1 : k0_cond1 i = 1#1)

/-- Before trip `k` of the clearing loop the first `k` heads are the end mark. -/
def clearInv (k : ℕ) : sProp 𝕄 :=
  iprop(∃ H : S131.Idx → BitVec 32, ⌜∀ b : Fin 131, b.val < k → H (ix1 b) = 4294967295#32⌝ ∗ owns (c : Thread nD τ) arg11 fullShare H)

theorem clear_step (k : Fin k0_t1_loop.trips) (acc : Unit) :
    clearInv (F := F) c arg11 k.val
      ⊢ wp frame (wpE (defs₀ (F := F)) 𝒱₀ (c : Thread nD τ) none) Set.univ
        (k0_t1_body (F := F) i arg1 harg1 arg2 harg2 arg3 harg3 arg4 harg4 arg5 harg5 arg6 harg6 arg7 harg7 arg8 harg8 arg9 harg9 arg10 harg10 arg11 harg11 arg12 harg12 k0_h1 k acc)
        (fun _ => clearInv (F := F) c arg11 (k.val + 1)) := by
  obtain ⟨hk, hoff⟩ := off1_eq k
  unfold k0_t1_body clearInv
  simp only [smemLoad, smemLoadElt, Prog.lift, Prog.bind_op, Prog.bind_ret, Prog.pure_eq_ret]
  iintro ⟨%H, %hH, H11⟩
  iapply (wp_load_owns 𝒱₀ (c : Thread nD τ) none Set.univ (m := arg11)) $$ H11; iintro H11
  iapply (wp_store_owns 𝒱₀ (c : Thread nD τ) none Set.univ (m := arg11)) $$ H11; iintro H11
  rw [wp_ret]; imodintro
  iexists _
  isplitr [H11]
  swap
  · iexact H11
  · ipureintro
    intro b hb
    refine (upd_word H _ _ _ b hoff).trans ?_
    by_cases h : b.val = k.val
    · rw [if_pos h]
    · rw [if_neg h]; exact hH b (by omega)

variable (X1 : S1x256.Idx → BitVec 32)

/-- Before trip `k` of the linking loop the last `k` tokens are linked. -/
def linkInv (k : ℕ) : sProp 𝕄 :=
  iprop(owns (c : Thread nD τ) arg1 fullShare X1 ∗ ∃ H : S131.Idx → BitVec 32, ∃ N : S256.Idx → BitVec 32,
    ⌜Linked X1 k H N⌝ ∗ owns (c : Thread nD τ) arg11 fullShare H ∗ owns (c : Thread nD τ) arg12 fullShare N)

theorem link_step (hX : IdsOk X1) (k : Fin k0_t2_loop.trips) (acc : Unit) :
    linkInv (F := F) c arg1 arg11 arg12 X1 k.val
      ⊢ wp frame (wpE (defs₀ (F := F)) 𝒱₀ (c : Thread nD τ) none) Set.univ
        (k0_t2_body (F := F) i arg1 harg1 arg2 harg2 arg3 harg3 arg4 harg4 arg5 harg5 arg6 harg6 arg7 harg7 arg8 harg8 arg9 harg9 arg10 harg10 arg11 harg11 arg12 harg12 k0_h1 k acc)
        (fun _ => linkInv (F := F) c arg1 arg11 arg12 X1 (k.val + 1)) := by
  obtain ⟨hk, -⟩ := iv_t2 k
  have hid := hX (255 - k.val)
  have ht : 255 - k.val < 256 := by omega
  have hidn : idn X1 (255 - k.val) = X1 (ix2 (0 : Fin 1) (⟨255 - k.val, ht⟩ : Fin 256)) := by unfold idn; rw [dif_pos ht]
  unfold k0_t2_body linkInv
  simp only [smemLoad, smemLoadElt, Prog.lift, Prog.bind_op, Prog.bind_ret, Prog.pure_eq_ret]
  iintro ⟨H1, %H, %N, %hL, H11, H12⟩
  iapply (wp_load_word 𝒱₀ (c : Thread nD τ) none Set.univ (m := arg1) (idn X1 (255 - k.val))
    (fun x => by exact (congrArg X1 (emb_word2 _ _ (off2_eq k) ht x)).trans hidn.symm)) $$ H1; iintro H1
  iapply (wp_assume 𝒱₀ (c : Thread nD τ) none Set.univ (chk1_of i (idn X1 (255 - k.val)) hid))
  have hb : (idn X1 (255 - k.val)).toNat / 384 < 131 := by omega
  iapply (wp_load_word 𝒱₀ (c : Thread nD τ) none Set.univ (m := arg11)
    (H (ix1 (⟨(idn X1 (255 - k.val)).toNat / 384, hb⟩ : Fin 131)))
    (fun x => by exact congrArg H (emb_word _ _ (off3_eq _ hid) hb x))) $$ H11; iintro H11
  iapply (wp_load_owns 𝒱₀ (c : Thread nD τ) none Set.univ (m := arg12)) $$ H12; iintro H12
  iapply (wp_store_owns 𝒱₀ (c : Thread nD τ) none Set.univ (m := arg12)) $$ H12; iintro H12
  iapply (wp_load_owns 𝒱₀ (c : Thread nD τ) none Set.univ (m := arg11)) $$ H11; iintro H11
  iapply (wp_store_owns 𝒱₀ (c : Thread nD τ) none Set.univ (m := arg11)) $$ H11; iintro H11
  rw [wp_ret]; imodintro
  isplitl [H1]; · iexact H1
  iexists _
  iexists _
  isplitr [H11 H12]
  swap
  · isplitl [H11]
    · iexact H11
    · iexact H12
  · ipureintro
    refine linked_step X1 k.val hk H _ N _ hid hL (fun b => ?_) (fun t => ?_)
    · exact (upd_word H _ _ _ b (off3_eq _ hid)).trans
        (congrArg (fun w => if b.val = (idn X1 (255 - k.val)).toNat / 384 then w else H (ix1 b)) (tok_t2 k))
    · exact upd_word N _ _ _ t (off4_eq k)

end Loops

end Cert.Proof.KI
end
end
-- ==== Proof.K.IdealBody.lean ====
module

public import proofs.«01_k».proof.Proof.K.Columns
public import proofs.«01_k».proof.Proof.K.IdealWalk

/-! # `KernelIdeal`: one grid point

The first grid point prepares the scratch arrays; every grid point computes its block from them and walks its tokens. -/

@[expose] public section
noncomputable section

namespace Cert.Proof.KI

open Cert.KernelIdeal Cert.KernelIdeal.Gen Cert.Proof.K
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section Programs

variable (i : grid0.Coords) (arg1 : Memref sig .tc .smem S1x256 .i32) (harg1 : arg1.IsWhole) (arg2 : Memref sig .tc .vmem S256x384 .fp8e5m2) (harg2 : arg2.IsWhole) (arg3 : Memref sig .tc .vmem S256x393 .f32) (harg3 : arg3.IsWhole) (arg4 : Memref sig .tc .vmem S256x2560 .fp8e4m3) (harg4 : arg4.IsWhole) (arg5 : Memref sig .tc .vmem S1x256 .f32) (harg5 : arg5.IsWhole) (arg6 : Memref sig .tc .vmem S256x2560 .bf16) (harg6 : arg6.IsWhole) (arg7 : Memref sig .tc .vmem S384x2560 .f32) (harg7 : arg7.IsWhole) (arg8 : Memref sig .tc .vmem S256x2560 .bf16) (harg8 : arg8.IsWhole) (arg9 : Memref sig .tc .vmem S400x256 .f32) (harg9 : arg9.IsWhole) (arg10 : Memref sig .tc .vmem S256x2560 .f32) (harg10 : arg10.IsWhole) (arg11 : Memref sig .tc .smem S131 .i32) (harg11 : arg11.IsWhole) (arg12 : Memref sig .tc .smem S256 .i32) (harg12 : arg12.IsWhole)

/-- The first grid point's preparation, then `kk`. -/
def prep (k0_h1 : k0_cond1 i = 1#1) (kk : PUnit.{1} → Prog (TpuEff nD τ sig (Elt F) (Λ₀ F) .tc) PUnit) :
    Prog (TpuEff nD τ sig (Elt F) (Λ₀ F) .tc) PUnit := do
  let ⟨v42, v73⟩ : Σ' (v42 : FVec F S256x128 .bf16), FVec F S256x128 .bf16 ← k0_part1 i arg1 harg1 arg2 harg2 arg3 harg3 arg4 harg4 arg5 harg5 arg6 harg6 arg7 harg7 arg8 harg8 arg9 harg9 arg10 harg10 arg11 harg11 arg12 harg12
  let v108 : FVec F S256x128 .bf16 ← k0_part2 i arg1 harg1 arg2 harg2 arg3 harg3 arg4 harg4 arg5 harg5 arg6 harg6 arg7 harg7 arg8 harg8 arg9 harg9 arg10 harg10 arg11 harg11 arg12 harg12 v42 v73
  let v143 : FVec F S256x128 .bf16 ← k0_part3 i arg1 harg1 arg2 harg2 arg3 harg3 arg4 harg4 arg5 harg5 arg6 harg6 arg7 harg7 arg8 harg8 arg9 harg9 arg10 harg10 arg11 harg11 arg12 harg12 v42 v108
  let v178 : FVec F S256x128 .bf16 ← k0_part4 i arg1 harg1 arg2 harg2 arg3 harg3 arg4 harg4 arg5 harg5 arg6 harg6 arg7 harg7 arg8 harg8 arg9 harg9 arg10 harg10 arg11 harg11 arg12 harg12 v42 v143
  let v180 : Vec F S256x128 .bf16 ← Prog.lift (.load arg8 (Rect.unit (s := S256x2560) ![0, 2432] S256x128.size inb_S256x2560_S256x128_0_2432).toLoadRect (View.loadsAt_vmem h_S256x128))
  Prog.lift (.store arg8 (Rect.unit (s := S256x2560) ![0, 2432] S256x128.size inb_S256x2560_S256x128_0_2432) (k0_pay1 v42 v178) Finset.univ (View.stores_vmem h_S256x128 (harg8.storeExact_slice rfl _ packedbf16_S256x2560_S256x128_0_2432) (fun _ => rfl)) (.inl rfl))
  let v183 : Vec F S256x2560 .bf16 ← Prog.lift (.load arg6 (Rect.unit (s := S256x2560) ![0, 0] S256x2560.size inb_S256x2560_S256x2560_0_0).toLoadRect (View.loadsAt_vmem h_S256x2560))
  let v186 : Vec F S256x2560 .f32 ← Prog.lift (.load arg10 (Rect.unit (s := S256x2560) ![0, 0] S256x2560.size inb_S256x2560_S256x2560_0_0).toLoadRect (View.loadsAt_vmem h_S256x2560))
  Prog.lift (.store arg10 (Rect.unit (s := S256x2560) ![0, 0] S256x2560.size inb_S256x2560_S256x2560_0_0) (k0_pay2 v183) Finset.univ (View.stores_vmem_bits_univ h_S256x2560 rfl) (.inl rfl))
  let v189 : Vec F S256x393 .f32 ← Prog.lift (.load arg3 (Rect.unit (s := S256x393) ![0, 0] S256x393.size inb_S256x393_S256x393_0_0).toLoadRect (View.loadsAt_vmem h_S256x393))
  let v192 : Vec F S393x256 .f32 ← Prog.lift (.load arg9 (Rect.unit (s := S400x256) ![0, 0] S393x256.size inb_S400x256_S393x256_0_0).toLoadRect (View.loadsAt_vmem h_S393x256))
  Prog.lift (.store arg9 (Rect.unit (s := S400x256) ![0, 0] S393x256.size inb_S400x256_S393x256_0_0) (k0_pay3 v189) Finset.univ (View.stores_vmem_bits_univ h_S393x256 rfl) (.inl rfl))
  Scf.Loop.for k0_t1_loop (k0_t1_ok i k0_h1) ⟨⟩ (k0_t1_body i arg1 harg1 arg2 harg2 arg3 harg3 arg4 harg4 arg5 harg5 arg6 harg6 arg7 harg7 arg8 harg8 arg9 harg9 arg10 harg10 arg11 harg11 arg12 harg12 k0_h1)
  Scf.Loop.for k0_t2_loop (k0_t2_ok i k0_h1) ⟨⟩ (k0_t2_body i arg1 harg1 arg2 harg2 arg3 harg3 arg4 harg4 arg5 harg5 arg6 harg6 arg7 harg7 arg8 harg8 arg9 harg9 arg10 harg10 arg11 harg11 arg12 harg12 k0_h1)
  kk ⟨⟩

/-- What every grid point does. -/
def tail : Prog (TpuEff nD τ sig (Elt F) (Λ₀ F) .tc) PUnit := do
  let v3 : Vec F S256x384 .fp8e5m2 ← Prog.lift (.load arg2 (Rect.unit (s := S256x384) ![0, 0] S256x384.size inb_S256x384_S256x384_0_0).toLoadRect (View.loadsAt_vmem h_S256x384))
  let v10 : Vec F S1x256 .f32 ← Prog.lift (.load arg9 (Rect.unit (s := S400x256) (k0_off5 i 0#32) S1x256.size (k0_off5_inb i 0)).toLoadRect (View.loadsAt_vmem h_S1x256))
  let v18 : Vec F S1x256 .f32 ← Prog.lift (.load arg9 (Rect.unit (s := S400x256) (k0_off5 i 1#32) S1x256.size (k0_off5_inb i 1)).toLoadRect (View.loadsAt_vmem h_S1x256))
  let v26 : Vec F S1x256 .f32 ← Prog.lift (.load arg9 (Rect.unit (s := S400x256) (k0_off5 i 2#32) S1x256.size (k0_off5_inb i 2)).toLoadRect (View.loadsAt_vmem h_S1x256))
  let v32 : Vec F S256x2560 .bf16 ← Prog.lift (.load arg8 (Rect.unit (s := S256x2560) ![0, 0] S256x2560.size inb_S256x2560_S256x2560_0_0).toLoadRect (View.loadsAt_vmem h_S256x2560))
  let v34 : Vec F S384x2560 .f32 ← Prog.lift (.load arg7 (Rect.unit (s := S384x2560) ![0, 0] S384x2560.size inb_S384x2560_S384x2560_0_0).toLoadRect (View.loadsAt_vmem h_S384x2560))
  Prog.lift (.store arg7 (Rect.unit (s := S384x2560) ![0, 0] S384x2560.size inb_S384x2560_S384x2560_0_0) (k0_pay4 v3 v10 v18 v26 v32) Finset.univ (View.stores_vmem_bits_univ h_S384x2560 rfl) (.inl rfl))
  let v36 : Elt F .i32 ← smemLoad arg11 (Rect.unit (s := S131) (k0_off6 i) S1.size (k0_off6_inb i)) numel1_S1 rfl
  let v37 : BitVec 32 ← Prog.lift (.call (1 : (Λ₀ F).Label) ⟨i, arg1, harg1, arg7, harg7, arg10, harg10, arg12, harg12, v36⟩)
  pure ⟨⟩

/-- The body is the preparation at the first grid point, and then the part every grid point runs. -/
theorem skel_eq : cc0_tied_embedding_grad_skel (F := F) i arg1 harg1 arg2 harg2 arg3 harg3 arg4 harg4 arg5 harg5 arg6 harg6 arg7 harg7 arg8 harg8 arg9 harg9 arg10 harg10 arg11 harg11 arg12 harg12
    = if h : k0_cond1 i = 1#1 then prep i arg1 harg1 arg2 harg2 arg3 harg3 arg4 harg4 arg5 harg5 arg6 harg6 arg7 harg7 arg8 harg8 arg9 harg9 arg10 harg10 arg11 harg11 arg12 harg12 h
        (fun _ => tail i arg1 harg1 arg2 arg7 harg7 arg8 arg9 arg10 harg10 arg11 arg12 harg12)
      else tail i arg1 harg1 arg2 arg7 harg7 arg8 arg9 arg10 harg10 arg11 arg12 harg12 := rfl

end Programs

section Column

variable (c : Dev nD) (arg4 : Memref sig .tc .vmem S256x2560 .fp8e4m3) (arg8 : Memref sig .tc .vmem S256x2560 .bf16)
  (X4 : S256x2560.Idx → F .fp8e4m3) (X5 : S1x256.Idx → F .f32)

/-- The codes, and the scaled hidden states right in the first `n` columns. -/
def colInv (n : ℕ) : sProp 𝕄 :=
  iprop(owns (c : Thread nD τ) arg4 fullShare X4
    ∗ ∃ X8 : S256x2560.Idx → F .bf16, ⌜ColsOk X4 X5 n X8⌝ ∗ owns (c : Thread nD τ) arg8 fullShare X8)

/-- One column group: load the codes, scale them, store them. -/
theorem wp_col (n : ℕ) {inb : ∀ a, (![0, n] : Fin 2 → ℕ) a + S256x128.size a ≤ S256x2560.size a}
    {w : (S256x128.Idx → F .fp8e4m3) → S256x128.Idx → F .bf16} (hw : ∀ v, w v = colW X5 v)
    {hl : arg4.view.LoadsAt (Rect.unit (s := S256x2560) ![0, n] S256x128.size inb).toLoadRect}
    {hl' : arg8.view.LoadsAt (Rect.unit (s := S256x2560) ![0, n] S256x128.size inb).toLoadRect}
    {hx : (arg8.access (Rect.unit (s := S256x2560) ![0, n] S256x128.size inb)).Stores Finset.univ}
    {hm : Finset.univ = Finset.univ ∨ ∀ a, (Rect.unit (s := S256x2560) ![0, n] S256x128.size inb).stride a = 1}
    {kk : PUnit → Prog (TpuEff nD τ sig (Elt F) (Λ₀ F) .tc) PUnit} {Q : PUnit → sProp 𝕄} :
    colInv c arg4 arg8 X4 X5 n
      ⊢ iprop((colInv c arg4 arg8 X4 X5 (n + 128) -∗ wp frame (wpE (defs₀ (F := F)) 𝒱₀ (c : Thread nD τ) none) Set.univ (kk ⟨⟩) Q)
        -∗ wp frame (wpE (defs₀ (F := F)) 𝒱₀ (c : Thread nD τ) none) Set.univ
          (.op (.load arg4 (Rect.unit (s := S256x2560) ![0, n] S256x128.size inb).toLoadRect hl) fun (v : Vec F S256x128 .fp8e4m3) =>
            .op (.load arg8 (Rect.unit (s := S256x2560) ![0, n] S256x128.size inb).toLoadRect hl') fun _ =>
            .op (.store arg8 (Rect.unit (s := S256x2560) ![0, n] S256x128.size inb) (w v) Finset.univ hx hm) kk) Q) := by
  unfold colInv
  iintro ⟨H4, %X8, %h8, H8⟩ K
  iapply (wp_load_owns 𝒱₀ (c : Thread nD τ) none Set.univ (m := arg4)) $$ H4; iintro H4
  iapply (wp_load_owns 𝒱₀ (c : Thread nD τ) none Set.univ (m := arg8)) $$ H8; iintro H8
  iapply (wp_store_to 𝒱₀ (c : Thread nD τ) none Set.univ (m := arg8)
    (upd X8 (Rect.unit (s := S256x2560) ![0, n] S256x128.size inb)
      (colW X5 fun x => X4 ((Rect.unit (s := S256x2560) ![0, n] S256x128.size inb).emb x))) (by rw [hw]; rfl)) $$ H8
  iintro H8
  iapply K
  isplitl [H4]; · iexact H4
  iexists _
  isplitr [H8]
  swap
  · iexact H8
  · ipureintro
    exact cols_step X4 X5 n X8 inb h8

end Column

section Body

variable (c : Dev nD) (i : grid0.Coords) (arg1 : Memref sig .tc .smem S1x256 .i32) (harg1 : arg1.IsWhole) (arg2 : Memref sig .tc .vmem S256x384 .fp8e5m2) (harg2 : arg2.IsWhole) (arg3 : Memref sig .tc .vmem S256x393 .f32) (harg3 : arg3.IsWhole) (arg4 : Memref sig .tc .vmem S256x2560 .fp8e4m3) (harg4 : arg4.IsWhole) (arg5 : Memref sig .tc .vmem S1x256 .f32) (harg5 : arg5.IsWhole) (arg6 : Memref sig .tc .vmem S256x2560 .bf16) (harg6 : arg6.IsWhole) (arg7 : Memref sig .tc .vmem S384x2560 .f32) (harg7 : arg7.IsWhole) (arg8 : Memref sig .tc .vmem S256x2560 .bf16) (harg8 : arg8.IsWhole) (arg9 : Memref sig .tc .vmem S400x256 .f32) (harg9 : arg9.IsWhole) (arg10 : Memref sig .tc .vmem S256x2560 .f32) (harg10 : arg10.IsWhole) (arg11 : Memref sig .tc .smem S131 .i32) (harg11 : arg11.IsWhole) (arg12 : Memref sig .tc .smem S256 .i32) (harg12 : arg12.IsWhole)
  (X1 : S1x256.Idx → BitVec 32) (X2 : S256x384.Idx → F .fp8e5m2) (X3 : S256x393.Idx → F .f32)
  (X4 : S256x2560.Idx → F .fp8e4m3) (X5 : S1x256.Idx → F .f32) (X6 : S256x2560.Idx → F .bf16)

/-- The scratch arrays once prepared. -/
def ready : sProp 𝕄 :=
  iprop(owns (c : Thread nD τ) arg8 fullShare (hhP X4 X5)
    ∗ (∃ X9 : S400x256.Idx → F .f32, ⌜RowsOk X3 X9⌝ ∗ owns (c : Thread nD τ) arg9 fullShare X9)
    ∗ owns (c : Thread nD τ) arg10 fullShare (d32P X6)
    ∗ ∃ H : S131.Idx → BitVec 32, ∃ N : S256.Idx → BitVec 32, ⌜Linked X1 256 H N⌝
      ∗ owns (c : Thread nD τ) arg11 fullShare H ∗ owns (c : Thread nD τ) arg12 fullShare N)

/-- The scratch arrays with arbitrary contents. -/
def raw : sProp 𝕄 :=
  iprop((∃ X8 : S256x2560.Idx → F .bf16, owns (c : Thread nD τ) arg8 fullShare X8)
    ∗ (∃ X9 : S400x256.Idx → F .f32, owns (c : Thread nD τ) arg9 fullShare X9)
    ∗ (∃ X10 : S256x2560.Idx → F .f32, owns (c : Thread nD τ) arg10 fullShare X10)
    ∗ (∃ H : S131.Idx → BitVec 32, owns (c : Thread nD τ) arg11 fullShare H)
    ∗ (∃ N : S256.Idx → BitVec 32, owns (c : Thread nD τ) arg12 fullShare N))

/-- The part every grid point runs: from prepared scratch arrays the output block ends at `outBlk`. -/
theorem tail_sound (hX : IdsOk X1) :
    iprop(owns (c : Thread nD τ) arg1 fullShare X1 ∗ owns (c : Thread nD τ) arg2 fullShare X2
        ∗ (∃ X7 : S384x2560.Idx → F .f32, owns (c : Thread nD τ) arg7 fullShare X7)
        ∗ ready c arg8 arg9 arg10 arg11 arg12 X1 X3 X4 X5 X6)
      ⊢ wp frame (wpE (defs₀ (F := F)) 𝒱₀ (c : Thread nD τ) none) Set.univ
        (tail (F := F) i arg1 harg1 arg2 arg7 harg7 arg8 arg9 arg10 harg10 arg11 arg12 harg12)
        (fun _ => iprop(owns (c : Thread nD τ) arg1 fullShare X1 ∗ owns (c : Thread nD τ) arg2 fullShare X2
          ∗ owns (c : Thread nD τ) arg7 fullShare (outBlk i X1 X2 X3 X4 X5 X6)
          ∗ ready c arg8 arg9 arg10 arg11 arg12 X1 X3 X4 X5 X6)) := by
  have hi : (i 0).val < 131 := (i 0).isLt
  unfold tail ready
  simp only [smemLoad, smemLoadElt, Prog.lift, Prog.bind_op, Prog.bind_ret, Prog.pure_eq_ret]
  iintro ⟨H1, H2, ⟨%X7, H7⟩, H8, ⟨%X9, %h9, H9⟩, H10, %H, %N, %hL, H11, H12⟩
  iapply (wp_load_to 𝒱₀ (c : Thread nD τ) none Set.univ (m := arg2) X2 (by exact load_full X2 _)) $$ H2; iintro H2
  iapply (wp_load_to 𝒱₀ (c : Thread nD τ) none Set.univ (m := arg9) (scRow X3 (3 * (i 0).val) (by omega))
    (by exact row_load X3 X9 h9 (3 * (i 0).val) (by omega) _ (off5_eq i 0) _)) $$ H9; iintro H9
  iapply (wp_load_to 𝒱₀ (c : Thread nD τ) none Set.univ (m := arg9) (scRow X3 (3 * (i 0).val + 1) (by omega))
    (by exact row_load X3 X9 h9 (3 * (i 0).val + 1) (by omega) _ (off5_eq i 1) _)) $$ H9; iintro H9
  iapply (wp_load_to 𝒱₀ (c : Thread nD τ) none Set.univ (m := arg9) (scRow X3 (3 * (i 0).val + 2) (by omega))
    (by exact row_load X3 X9 h9 (3 * (i 0).val + 2) (by omega) _ (off5_eq i 2) _)) $$ H9; iintro H9
  iapply (wp_load_to 𝒱₀ (c : Thread nD τ) none Set.univ (m := arg8) (hhP X4 X5) (by exact load_full (hhP X4 X5) _)) $$ H8; iintro H8
  iapply (wp_load_owns 𝒱₀ (c : Thread nD τ) none Set.univ (m := arg7)) $$ H7; iintro H7
  iapply (wp_store_to 𝒱₀ (c : Thread nD τ) none Set.univ (m := arg7) _ (by exact upd_full X7 _ _)) $$ H7; iintro H7
  iapply (wp_load_word 𝒱₀ (c : Thread nD τ) none Set.univ (m := arg11) (H (ix1 (⟨(i 0).val, hi⟩ : Fin 131)))
    (fun x => by exact congrArg H (emb_word _ _ (off6_eq i) hi x))) $$ H11; iintro H11
  iapply (wp_call_spec 𝒱₀ (c : Thread nD τ) none Set.univ
    (spec c i arg1 arg7 arg10 arg12 X1 (d32P X6) N (lst X1 (i 0).val 256) _) (lst X1 (i 0).val 256).length
    (fun u hu => nomatch hu)
    (spec_le c i arg1 harg1 arg7 harg7 arg10 harg10 arg12 harg12 X1 (d32P X6) N Set.univ (lst X1 (i 0).val 256)
      (H (ix1 (⟨(i 0).val, hi⟩ : Fin 131))) (hL ⟨(i 0).val, hi⟩)
      (fun t ht => ⟨hX t, (mem_lst X1 (i 0).val 256 le_rfl t ht).2.2⟩) _))
  rw [spec_apply]; unfold held
  isplitl [H1 H7 H10 H12]
  · isplitl [H1]; · iexact H1
    isplitl [H7]; · iexact H7
    isplitl [H10]; · iexact H10
    iexact H12
  iintro %r ⟨H1, H7, H10, H12⟩
  rw [wp_ret]; imodintro
  isplitl [H1]; · iexact H1
  isplitl [H2]; · iexact H2
  isplitl [H7]; · iexact H7
  isplitl [H8]; · iexact H8
  isplitl [H9]
  · iexists X9
    isplitr; · ipureintro; exact h9
    iexact H9
  isplitl [H10]; · iexact H10
  iexists H
  iexists N
  isplitr; · ipureintro; exact hL
  isplitl [H11]; · iexact H11
  iexact H12

end Body

end Cert.Proof.KI
end
end
-- ==== Proof.K.IdealPrep.lean ====
module

public import proofs.«01_k».proof.Proof.K.IdealBody

/-! # `KernelIdeal`: the preparation, and the whole body

The first grid point scales the hidden states, widens the embedding gradient, transposes the scales and links the tokens. -/

@[expose] public section
noncomputable section

namespace Cert.Proof.KI

open Cert.KernelIdeal Cert.KernelIdeal.Gen Cert.Proof.K
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg1 : Memref sig .tc .smem S1x256 .i32) (harg1 : arg1.IsWhole) (arg2 : Memref sig .tc .vmem S256x384 .fp8e5m2) (harg2 : arg2.IsWhole) (arg3 : Memref sig .tc .vmem S256x393 .f32) (harg3 : arg3.IsWhole) (arg4 : Memref sig .tc .vmem S256x2560 .fp8e4m3) (harg4 : arg4.IsWhole) (arg5 : Memref sig .tc .vmem S1x256 .f32) (harg5 : arg5.IsWhole) (arg6 : Memref sig .tc .vmem S256x2560 .bf16) (harg6 : arg6.IsWhole) (arg7 : Memref sig .tc .vmem S384x2560 .f32) (harg7 : arg7.IsWhole) (arg8 : Memref sig .tc .vmem S256x2560 .bf16) (harg8 : arg8.IsWhole) (arg9 : Memref sig .tc .vmem S400x256 .f32) (harg9 : arg9.IsWhole) (arg10 : Memref sig .tc .vmem S256x2560 .f32) (harg10 : arg10.IsWhole) (arg11 : Memref sig .tc .smem S131 .i32) (harg11 : arg11.IsWhole) (arg12 : Memref sig .tc .smem S256 .i32) (harg12 : arg12.IsWhole)
  (X1 : S1x256.Idx → BitVec 32) (X2 : S256x384.Idx → F .fp8e5m2) (X3 : S256x393.Idx → F .f32)
  (X4 : S256x2560.Idx → F .fp8e4m3) (X5 : S1x256.Idx → F .f32) (X6 : S256x2560.Idx → F .bf16)

/-- The preparation: from arbitrary scratch arrays the continuation runs with the prepared ones. -/
theorem prep_sound (hX : IdsOk X1) (k0_h1 : k0_cond1 i = 1#1) (kk : PUnit.{1} → Prog (TpuEff nD τ sig (Elt F) (Λ₀ F) .tc) PUnit)
    (Q : PUnit → sProp 𝕄) :
    iprop((owns (c : Thread nD τ) arg1 fullShare X1 ∗ owns (c : Thread nD τ) arg3 fullShare X3
        ∗ owns (c : Thread nD τ) arg4 fullShare X4 ∗ owns (c : Thread nD τ) arg5 fullShare X5
        ∗ owns (c : Thread nD τ) arg6 fullShare X6 ∗ raw (F := F) c arg8 arg9 arg10 arg11 arg12)
      ∗ (iprop(owns (c : Thread nD τ) arg1 fullShare X1 ∗ owns (c : Thread nD τ) arg3 fullShare X3
        ∗ owns (c : Thread nD τ) arg4 fullShare X4 ∗ owns (c : Thread nD τ) arg5 fullShare X5
        ∗ owns (c : Thread nD τ) arg6 fullShare X6 ∗ ready c arg8 arg9 arg10 arg11 arg12 X1 X3 X4 X5 X6)
        -∗ wp frame (wpE (defs₀ (F := F)) 𝒱₀ (c : Thread nD τ) none) Set.univ (kk ⟨⟩) Q))
      ⊢ wp frame (wpE (defs₀ (F := F)) 𝒱₀ (c : Thread nD τ) none) Set.univ (prep (F := F) i arg1 harg1 arg2 harg2 arg3 harg3 arg4 harg4 arg5 harg5 arg6 harg6 arg7 harg7 arg8 harg8 arg9 harg9 arg10 harg10 arg11 harg11 arg12 harg12 k0_h1 kk) Q := by
  unfold prep raw
  simp only [k0_part1_eq_skeleton, k0_part1_skel, k0_part2_eq_skeleton, k0_part2_skel, k0_part3_eq_skeleton, k0_part3_skel,
    k0_part4_eq_skeleton, k0_part4_skel, Prog.lift, Prog.bind_op, Prog.bind_ret, Prog.pure_eq_ret]
  iintro ⟨⟨H1, H3, H4, H5, H6, ⟨%X8, H8⟩, ⟨%X9, H9⟩, ⟨%X10, H10⟩, ⟨%H, H11⟩, %N, H12⟩, K⟩
  iapply (wp_load_to 𝒱₀ (c : Thread nD τ) none Set.univ (m := arg5) X5 (by exact load_full X5 _)) $$ H5; iintro H5
  ihave C : colInv (F := F) c arg4 arg8 X4 X5 0 $$ [H4 H8]
  · unfold colInv
    isplitl [H4]; · iexact H4
    iexists X8
    isplitr; · ipureintro; exact fun y hy => absurd hy (Nat.not_lt_zero _)
    iexact H8
  iterate 20
    iapply (wp_col c arg4 arg8 X4 X5 _ (by
      intro v
      simp only [k0_pay1, k0_pay7, k0_pay8, k0_pay9, k0_pay10, k0_pay11, k0_pay12, k0_pay13, k0_pay14, k0_pay15, k0_pay16,
        k0_pay17, k0_pay18, k0_pay19, k0_pay20, k0_pay21, k0_pay22, k0_pay23, k0_pay24, k0_pay25, k0_pay26, k0_pay27,
        k0_pay28, k0_pay29, shapeCast_self]
      exact col_eq X5 v)) $$ C
    iintro C
  unfold colInv
  icases C with ⟨H4, %Y8, %h8, H8⟩
  have e8 := cols_full X4 X5 Y8 h8
  subst e8
  iapply (wp_load_to 𝒱₀ (c : Thread nD τ) none Set.univ (m := arg6) X6 (by exact load_full X6 _)) $$ H6; iintro H6
  iapply (wp_load_owns 𝒱₀ (c : Thread nD τ) none Set.univ (m := arg10)) $$ H10; iintro H10
  iapply (wp_store_to 𝒱₀ (c : Thread nD τ) none Set.univ (m := arg10) (d32P X6)
    (by exact (upd_full X10 _ _).trans (pay2_eq X6))) $$ H10; iintro H10
  iapply (wp_load_to 𝒱₀ (c : Thread nD τ) none Set.univ (m := arg3) X3 (by exact load_full X3 _)) $$ H3; iintro H3
  iapply (wp_load_owns 𝒱₀ (c : Thread nD τ) none Set.univ (m := arg9)) $$ H9; iintro H9
  iapply (wp_store_owns 𝒱₀ (c : Thread nD τ) none Set.univ (m := arg9)) $$ H9; iintro H9
  ihave L : clearInv (F := F) c arg11 0 $$ [H11]
  · unfold clearInv
    iexists H
    isplitr; · ipureintro; exact fun b hb => absurd hb (Nat.not_lt_zero _)
    iexact H11
  iapply (Scf.wp_for_bind _ _ _ k0_t1_loop.lb k0_t1_loop.ub k0_t1_loop.st (k0_t1_ok i k0_h1) ⟨⟩ _
    (fun k _ => clearInv (F := F) c arg11 k)
    (clear_step c i arg1 harg1 arg2 harg2 arg3 harg3 arg4 harg4 arg5 harg5 arg6 harg6 arg7 harg7 arg8 harg8 arg9 harg9 arg10 harg10 arg11 harg11 arg12 harg12 k0_h1)) $$ L
  iintro %u L
  unfold clearInv
  icases L with ⟨%H', %hH, H11⟩
  ihave L : linkInv (F := F) c arg1 arg11 arg12 X1 0 $$ [H1 H11 H12]
  · unfold linkInv
    isplitl [H1]; · iexact H1
    iexists H'
    iexists N
    isplitr; · ipureintro; exact linked_zero X1 H' N (fun b => hH b b.isLt)
    isplitl [H11]; · iexact H11
    iexact H12
  iapply (Scf.wp_for_bind _ _ _ k0_t2_loop.lb k0_t2_loop.ub k0_t2_loop.st (k0_t2_ok i k0_h1) ⟨⟩ _
    (fun k _ => linkInv (F := F) c arg1 arg11 arg12 X1 k)
    (link_step c i arg1 harg1 arg2 harg2 arg3 harg3 arg4 harg4 arg5 harg5 arg6 harg6 arg7 harg7 arg8 harg8 arg9 harg9 arg10 harg10 arg11 harg11 arg12 harg12 k0_h1 X1 hX)) $$ L
  iintro %u' L
  unfold linkInv
  icases L with ⟨H1, %H'', %N', %hL, H11, H12⟩
  iapply K
  isplitl [H1]; · iexact H1
  isplitl [H3]; · iexact H3
  isplitl [H4]; · iexact H4
  isplitl [H5]; · iexact H5
  isplitl [H6]; · iexact H6
  unfold ready
  isplitl [H8]; · iexact H8
  isplitl [H9]
  · iexists _
    isplitr [H9]
    swap
    · iexact H9
    · ipureintro; exact rows_store X3 X9 _
  isplitl [H10]; · iexact H10
  iexists H''
  iexists N'
  isplitr; · ipureintro; exact hL
  isplitl [H11]; · iexact H11
  iexact H12

/-- The scratch arrays before a grid point: arbitrary before the first, prepared before every other. -/
def before : sProp 𝕄 :=
  if (i 0).val = 0 then raw (F := F) c arg8 arg9 arg10 arg11 arg12
  else ready c arg8 arg9 arg10 arg11 arg12 X1 X3 X4 X5 X6

/-- The part every grid point runs, the inputs it does not read carried along. -/
theorem tail_frame (hX : IdsOk X1) :
    iprop(owns (c : Thread nD τ) arg1 fullShare X1 ∗ owns (c : Thread nD τ) arg2 fullShare X2
        ∗ owns (c : Thread nD τ) arg3 fullShare X3 ∗ owns (c : Thread nD τ) arg4 fullShare X4
        ∗ owns (c : Thread nD τ) arg5 fullShare X5 ∗ owns (c : Thread nD τ) arg6 fullShare X6
        ∗ (∃ X7 : S384x2560.Idx → F .f32, owns (c : Thread nD τ) arg7 fullShare X7)
        ∗ ready c arg8 arg9 arg10 arg11 arg12 X1 X3 X4 X5 X6)
      ⊢ wp frame (wpE (defs₀ (F := F)) 𝒱₀ (c : Thread nD τ) none) Set.univ
        (tail (F := F) i arg1 harg1 arg2 arg7 harg7 arg8 arg9 arg10 harg10 arg11 arg12 harg12)
        (fun _ => iprop(owns (c : Thread nD τ) arg1 fullShare X1 ∗ owns (c : Thread nD τ) arg2 fullShare X2
          ∗ owns (c : Thread nD τ) arg3 fullShare X3 ∗ owns (c : Thread nD τ) arg4 fullShare X4
          ∗ owns (c : Thread nD τ) arg5 fullShare X5 ∗ owns (c : Thread nD τ) arg6 fullShare X6
          ∗ owns (c : Thread nD τ) arg7 fullShare (outBlk i X1 X2 X3 X4 X5 X6)
          ∗ ready c arg8 arg9 arg10 arg11 arg12 X1 X3 X4 X5 X6)) := by
  iintro ⟨H1, H2, H3, H4, H5, H6, H7, HS⟩
  iapply (wp_wand frame (wpE (defs₀ (F := F)) 𝒱₀ (c : Thread nD τ) none) Set.univ) $$ [H1 H2 H7 HS]
  · iapply (tail_sound c i arg1 harg1 arg2 arg7 harg7 arg8 arg9 arg10 harg10 arg11 arg12 harg12 X1 X2 X3 X4 X5 X6 hX)
    isplitl [H1]; · iexact H1
    isplitl [H2]; · iexact H2
    isplitl [H7]; · iexact H7
    iexact HS
  iintro %u ⟨H1, H2, H7, HS⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HS

/-- The body of one grid point: the output block ends at `outBlk`, the inputs are unchanged, the scratch arrays are prepared. -/
theorem body_sound (hX : IdsOk X1) :
    iprop(owns (c : Thread nD τ) arg1 fullShare X1 ∗ owns (c : Thread nD τ) arg2 fullShare X2
        ∗ owns (c : Thread nD τ) arg3 fullShare X3 ∗ owns (c : Thread nD τ) arg4 fullShare X4
        ∗ owns (c : Thread nD τ) arg5 fullShare X5 ∗ owns (c : Thread nD τ) arg6 fullShare X6
        ∗ (∃ X7 : S384x2560.Idx → F .f32, owns (c : Thread nD τ) arg7 fullShare X7)
        ∗ before c i arg8 arg9 arg10 arg11 arg12 X1 X3 X4 X5 X6)
      ⊢ wp frame (wpE (defs₀ (F := F)) 𝒱₀ (c : Thread nD τ) none) Set.univ
        (cc0_tied_embedding_grad (F := F) i arg1 harg1 arg2 harg2 arg3 harg3 arg4 harg4 arg5 harg5 arg6 harg6 arg7 harg7 arg8 harg8 arg9 harg9 arg10 harg10 arg11 harg11 arg12 harg12)
        (fun _ => iprop(owns (c : Thread nD τ) arg1 fullShare X1 ∗ owns (c : Thread nD τ) arg2 fullShare X2
          ∗ owns (c : Thread nD τ) arg3 fullShare X3 ∗ owns (c : Thread nD τ) arg4 fullShare X4
          ∗ owns (c : Thread nD τ) arg5 fullShare X5 ∗ owns (c : Thread nD τ) arg6 fullShare X6
          ∗ owns (c : Thread nD τ) arg7 fullShare (outBlk i X1 X2 X3 X4 X5 X6)
          ∗ ready c arg8 arg9 arg10 arg11 arg12 X1 X3 X4 X5 X6)) := by
  by_cases h : k0_cond1 i = 1#1
  · have e : cc0_tied_embedding_grad (F := F) i arg1 harg1 arg2 harg2 arg3 harg3 arg4 harg4 arg5 harg5 arg6 harg6 arg7 harg7 arg8 harg8 arg9 harg9 arg10 harg10 arg11 harg11 arg12 harg12 = prep i arg1 harg1 arg2 harg2 arg3 harg3 arg4 harg4 arg5 harg5 arg6 harg6 arg7 harg7 arg8 harg8 arg9 harg9 arg10 harg10 arg11 harg11 arg12 harg12 h (fun _ => tail i arg1 harg1 arg2 arg7 harg7 arg8 arg9 arg10 harg10 arg11 arg12 harg12) := by
      rw [cc0_tied_embedding_grad_eq_skeleton, skel_eq]; exact dif_pos h
    have eb : before c i arg8 arg9 arg10 arg11 arg12 X1 X3 X4 X5 X6 = raw (F := F) c arg8 arg9 arg10 arg11 arg12 :=
      if_pos ((cond1_iff i).1 h)
    rw [e, eb]
    iintro ⟨H1, H2, H3, H4, H5, H6, H7, HS⟩
    iapply (prep_sound c i arg1 harg1 arg2 harg2 arg3 harg3 arg4 harg4 arg5 harg5 arg6 harg6 arg7 harg7 arg8 harg8 arg9 harg9 arg10 harg10 arg11 harg11 arg12 harg12 X1 X3 X4 X5 X6 hX h)
    isplitl [H1 H3 H4 H5 H6 HS]
    · isplitl [H1]; · iexact H1
      isplitl [H3]; · iexact H3
      isplitl [H4]; · iexact H4
      isplitl [H5]; · iexact H5
      isplitl [H6]; · iexact H6
      iexact HS
    iintro ⟨H1, H3, H4, H5, H6, HS⟩
    iapply (tail_frame c i arg1 harg1 arg2 arg3 arg4 arg5 arg6 arg7 harg7 arg8 arg9 arg10 harg10 arg11 arg12 harg12 X1 X2 X3 X4 X5 X6 hX)
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  · have e : cc0_tied_embedding_grad (F := F) i arg1 harg1 arg2 harg2 arg3 harg3 arg4 harg4 arg5 harg5 arg6 harg6 arg7 harg7 arg8 harg8 arg9 harg9 arg10 harg10 arg11 harg11 arg12 harg12 = tail i arg1 harg1 arg2 arg7 harg7 arg8 arg9 arg10 harg10 arg11 arg12 harg12 := by
      rw [cc0_tied_embedding_grad_eq_skeleton, skel_eq]; exact dif_neg h
    have eb : before c i arg8 arg9 arg10 arg11 arg12 X1 X3 X4 X5 X6 = ready c arg8 arg9 arg10 arg11 arg12 X1 X3 X4 X5 X6 :=
      if_neg (fun h0 => h ((cond1_iff i).2 h0))
    rw [e, eb]
    exact tail_frame c i arg1 harg1 arg2 arg3 arg4 arg5 arg6 arg7 harg7 arg8 arg9 arg10 harg10 arg11 arg12 harg12 X1 X2 X3 X4 X5 X6 hX

end Cert.Proof.KI
end
end
-- ==== Proof.K.IdealRun.lean ====
module

public import proofs.«01_k».proof.Proof.K.IdealPrep
public import Idealize.ShloMosaic.Lib.Pipeline.ValueKit
public import Idealize.ShloMosaic.Lib.Claim

/-! # `KernelIdeal`: the run

The proof data of the pipeline (what every staging buffer holds after each grid point, what the scratch arrays hold between
grid points), the body obligation, and the run of the program: it terminates with the arguments unchanged, the semaphores
at zero, and the result array at what the write-backs leave. -/

@[expose] public section
noncomputable section

namespace Cert.Proof.KI

open Cert.KernelIdeal Cert.KernelIdeal.Gen Cert.Proof.K
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the four reshapes. -/
abbrev V0 (c : Dev nD) : Valuation τ sig (Elt F) := StableHlo.after hostOps0 (fun b => m (c, b))
/-- The same at a TensorCore reference. -/
abbrev V (c : Dev nD) (b : Ref sig .tc) : Buf (Elt F) ((c : Thread nD τ).loc b) := V0 m c (Proc.devRef .tc b)

/-- The reshapes allocate nothing. -/
theorem hostOps0_fresh : (hostOps0 : List (HloOp τ sig (Elt F))).Forall fun op => op.fresh = ∅ := by
  simp only [List.Forall]; repeat' constructor

/-- `main` up to the region. -/
theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no reshape writes is as launched. -/
theorem V_of_not_written (c : Dev nD) (b : Ref sig .tc) (h0 : b ≠ main_v0) (h1 : b ≠ main_v1) (h2 : b ≠ main_v2) (h3 : b ≠ main_v3) :
    V m c b = m ((c : Thread nD τ).loc b) := by
  refine StableHlo.after_of_forall_not_mem (b := Proc.devRef .tc b) _ _ (List.forall_iff_forall_mem.mp ?_)
  simp only [hostOps0, List.Forall, StableHlo.reshape_writes, Finset.mem_singleton]
  exact ⟨StableHlo.devRef_ne_of_ne h0, StableHlo.devRef_ne_of_ne h1, StableHlo.devRef_ne_of_ne h2, StableHlo.devRef_ne_of_ne h3⟩

theorem V_main_arg0 (c : Dev nD) : V m c main_arg0 = m ((c : Thread nD τ).loc main_arg0) :=
  V_of_not_written m c main_arg0 (by decide) (by decide) (by decide) (by decide)
theorem V_main_arg1 (c : Dev nD) : V m c main_arg1 = m ((c : Thread nD τ).loc main_arg1) :=
  V_of_not_written m c main_arg1 (by decide) (by decide) (by decide) (by decide)
theorem V_main_arg2 (c : Dev nD) : V m c main_arg2 = m ((c : Thread nD τ).loc main_arg2) :=
  V_of_not_written m c main_arg2 (by decide) (by decide) (by decide) (by decide)
theorem V_main_arg3 (c : Dev nD) : V m c main_arg3 = m ((c : Thread nD τ).loc main_arg3) :=
  V_of_not_written m c main_arg3 (by decide) (by decide) (by decide) (by decide)
theorem V_main_arg4 (c : Dev nD) : V m c main_arg4 = m ((c : Thread nD τ).loc main_arg4) :=
  V_of_not_written m c main_arg4 (by decide) (by decide) (by decide) (by decide)
theorem V_main_arg5 (c : Dev nD) : V m c main_arg5 = m ((c : Thread nD τ).loc main_arg5) :=
  V_of_not_written m c main_arg5 (by decide) (by decide) (by decide) (by decide)

/-! ## The windows' blocks -/

/-- Window `w`'s block at point `t`, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The grid's one coordinate is the point. -/
theorem coord_eq : ∀ t : Fin grid0.N, (grid0.coords t 0).val = t.val := by decide +kernel

/-- A place in block 0 is its own offset. -/
theorem add_block {k n a : ℕ} (h : k = 0) : k * n + a = a := by rw [h, Nat.zero_mul, Nat.zero_add]

theorem index_0 : ∀ t : Fin grid0.N, (win0 0).index t = ![0, 0] := by decide +kernel
theorem index_2 : ∀ t : Fin grid0.N, (win0 2).index t = ![0, 0] := by decide +kernel
theorem index_3 : ∀ t : Fin grid0.N, (win0 3).index t = ![0, 0] := by decide +kernel
theorem index_4 : ∀ t : Fin grid0.N, (win0 4).index t = ![0, 0] := by decide +kernel
theorem index_5 : ∀ t : Fin grid0.N, (win0 5).index t = ![0, 0] := by decide +kernel

/-- The ids' block is the whole array. -/
theorem iblk_0 (c : Dev nD) (t : Fin (cfg0 (F := F)).N) : iblk m c 0 t = V m c main_arg4 := by
  funext x
  blk_simp [iblk]
  refine congrArg (V m c main_arg4) ?_
  blk_ext []
  · exact congrFun (index_0 t) 0
  · exact add_block (congrFun (index_0 t) 1)

/-- The scales' block is the whole array. -/
theorem iblk_2 (c : Dev nD) (t : Fin (cfg0 (F := F)).N) : iblk m c 2 t = V m c main_v1 := by
  funext x
  blk_simp [iblk]
  refine congrArg (V m c main_v1) ?_
  blk_ext []
  · exact add_block (congrFun (index_2 t) 0)
  · exact add_block (congrFun (index_2 t) 1)

/-- The hidden states' block is the whole array. -/
theorem iblk_3 (c : Dev nD) (t : Fin (cfg0 (F := F)).N) : iblk m c 3 t = V m c main_v2 := by
  funext x
  blk_simp [iblk]
  refine congrArg (V m c main_v2) ?_
  blk_ext []
  · exact add_block (congrFun (index_3 t) 0)
  · exact add_block (congrFun (index_3 t) 1)

/-- The hidden states' scales' block is the whole array. -/
theorem iblk_4 (c : Dev nD) (t : Fin (cfg0 (F := F)).N) : iblk m c 4 t = V m c main_arg3 := by
  funext x
  blk_simp [iblk]
  refine congrArg (V m c main_arg3) ?_
  blk_ext []
  · exact congrFun (index_4 t) 0
  · exact add_block (congrFun (index_4 t) 1)

/-- The embedding gradient's block is the whole array. -/
theorem iblk_5 (c : Dev nD) (t : Fin (cfg0 (F := F)).N) : iblk m c 5 t = V m c main_v3 := by
  funext x
  blk_simp [iblk]
  refine congrArg (V m c main_v3) ?_
  blk_ext []
  · exact add_block (congrFun (index_5 t) 0)
  · exact add_block (congrFun (index_5 t) 1)

/-! ## The proof data -/

/-- The output block of point `t`. -/
def oblk (c : Dev nD) (t : Fin (cfg0 (F := F)).N) : S384x2560.Idx → F .f32 :=
  outBlk (grid0.coords t) (V m c main_arg4) (iblk m c 1 t) (V m c main_v1) (V m c main_v2) (V m c main_arg3) (V m c main_v3)

/-- The scratch arrays before point `t`. -/
def scr (c : Dev nD) (t : ℕ) : sProp 𝕄 :=
  if t = 0 then raw (F := F) c (Memref.whole cc0_scratch0) (Memref.whole cc0_scratch1) (Memref.whole cc0_scratch2)
      (Memref.whole cc0_scratch3) (Memref.whole cc0_scratch4)
  else ready c (Memref.whole cc0_scratch0) (Memref.whole cc0_scratch1) (Memref.whole cc0_scratch2)
      (Memref.whole cc0_scratch3) (Memref.whole cc0_scratch4)
      (V m c main_arg4) (V m c main_v1) (V m c main_v2) (V m c main_arg3) (V m c main_v3)

/-- The proof data: the arrays as the region finds them; after each point every input's buffer at its block and the
output's at `oblk`; between points the scratch arrays at `scr` and the generator register. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oblk m c t
  Φ t := iprop(scr m c t.val ∗ ∃ r, prngReg c r)
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = iblk m c 5 t := by dsimp only [dats]; rfl
theorem after0_6 (c : Dev nD) (t : Fin (cfg0 (F := F)).N) : (dats m 0 c).after 6 t = oblk m c t := by dsimp only [dats]; rfl

/-- Each input's staging buffer holds its block at every point, fetched there or not. -/
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfg0 (F := F)).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfg0 (F := F)).N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-! ## The body obligation -/

/-- What the body is called with at point `t`. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point. -/
theorem sound_body (hids : ∀ c : Dev nD, IdsOk (m ((c : Thread nD τ).loc main_arg4))) (c : Dev nD) (t : Fin (cfg0 (F := F)).N) :
    bodyPre m c t ⊢ wp frame (wpE (defs₀ (F := F)) 𝒱₀ (c : Thread nD τ) none) Set.univ (bodyAt0 t) (fun _ => bodyPost m c t) := by
  have hX : IdsOk (V m c main_arg4) := by rw [V_main_arg4]; exact hids c
  have e0 : (dats m 0 c).Φ t.castSucc = iprop(before c (grid0.coords t) (Memref.whole cc0_scratch0) (Memref.whole cc0_scratch1)
      (Memref.whole cc0_scratch2) (Memref.whole cc0_scratch3) (Memref.whole cc0_scratch4)
      (V m c main_arg4) (V m c main_v1) (V m c main_v2) (V m c main_arg3) (V m c main_v3) ∗ ∃ r, prngReg c r) := by
    have : scr m c t.val = before c (grid0.coords t) (Memref.whole cc0_scratch0) (Memref.whole cc0_scratch1)
      (Memref.whole cc0_scratch2) (Memref.whole cc0_scratch3) (Memref.whole cc0_scratch4)
      (V m c main_arg4) (V m c main_v1) (V m c main_v2) (V m c main_arg3) (V m c main_v3) := by
      unfold scr before
      rw [coord_eq t]
    rw [← this]
    rfl
  have e1 : (dats m 0 c).Φ t.succ = iprop(ready c (Memref.whole cc0_scratch0) (Memref.whole cc0_scratch1)
      (Memref.whole cc0_scratch2) (Memref.whole cc0_scratch3) (Memref.whole cc0_scratch4)
      (V m c main_arg4) (V m c main_v1) (V m c main_v2) (V m c main_arg3) (V m c main_v3) ∗ ∃ r, prngReg c r) := by
    have : scr m c (t.val + 1) = ready c (Memref.whole cc0_scratch0) (Memref.whole cc0_scratch1)
      (Memref.whole cc0_scratch2) (Memref.whole cc0_scratch3) (Memref.whole cc0_scratch4)
      (V m c main_arg4) (V m c main_v1) (V m c main_v2) (V m c main_arg3) (V m c main_v3) := if_neg (Nat.succ_ne_zero _)
    rw [← this]
    rfl
  unfold bodyPre bodyPost bodyAt0
  simp only [before0_0, before0_1, before0_2, before0_3, before0_4, before0_5]
  rw [e0, e1, show (dats m 0 c).owesAt () t.succ = (dats m 0 c).owesAt () t.castSucc from rfl,
    after0_0, after0_1, after0_2, after0_3, after0_4, after0_5, after0_6, iblk_0, iblk_2, iblk_3, iblk_4, iblk_5]
  iintro ⟨⟨HS, HR⟩, Ho, ⟨%d0, H0⟩, ⟨%d1, H1⟩, ⟨%d2, H2⟩, ⟨%d3, H3⟩, ⟨%d4, H4⟩, ⟨%d5, H5⟩, ⟨%d6, H6⟩⟩
  iapply (wp_wand frame (wpE (defs₀ (F := F)) 𝒱₀ (c : Thread nD τ) none) Set.univ) $$ [HS H0 H1 H2 H3 H4 H5 H6]
  · iapply (body_sound c (grid0.coords t) _ _ _ _ _ _ _ _ _ _ _ _ _ _ (Memref.whole cc0_scratch0) _ (Memref.whole cc0_scratch1) _
      (Memref.whole cc0_scratch2) _ (Memref.whole cc0_scratch3) _ (Memref.whole cc0_scratch4) _
      (V m c main_arg4) (iblk m c 1 t) (V m c main_v1) (V m c main_v2) (V m c main_arg3) (V m c main_v3) hX)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexact HS
  iintro %u ⟨H0, H1, H2, H3, H4, H5, H6, HS⟩
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is the body. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point. -/
theorem body_obligation (hids : ∀ c : Dev nD, IdsOk (m ((c : Thread nD τ).loc main_arg4))) (c : Dev nD) :
    BodyObligation (dats (F := F) m 0 c) (defs₀ (F := F)) 𝒱₀ () Set.univ := fun t => by
  rw [bigSep_W0, bigSep_W0, defs₀_row]
  exact triple_restated (sound_body m hids c t) rfl .rfl fun _ => .rfl

/-! ## The run -/

/-- Before the first point the scratch arrays hold anything. -/
theorem hin (c : Dev nD) : Pipeline.ΦA spec0 c ⊢ (dats (F := F) m 0 c).Φ 0 := by
  have e : (dats (F := F) m 0 c).Φ 0 = iprop(raw (F := F) c (Memref.whole cc0_scratch0) (Memref.whole cc0_scratch1)
      (Memref.whole cc0_scratch2) (Memref.whole cc0_scratch3) (Memref.whole cc0_scratch4) ∗ ∃ r, prngReg c r) := rfl
  rw [e]
  unfold Pipeline.ΦA raw
  rw [scopedRest0_eq]
  simp only [owns_whole]
  iintro ⟨⟨H0, H1, H2, H3, H4⟩, HR⟩
  isplitr [HR]
  swap; · iexact HR
  isplitl [H0]; · iexact H0
  isplitl [H1]; · iexact H1
  isplitl [H2]; · iexact H2
  isplitl [H3]; · iexact H3
  iexact H4

/-- After the last point the scratch arrays are forgotten. -/
theorem hout (c : Dev nD) : (dats (F := F) m 0 c).Φ (Fin.last (cfg0 (F := F)).N) ⊢ Pipeline.ΦA spec0 c := by
  have e : (dats (F := F) m 0 c).Φ (Fin.last (cfg0 (F := F)).N) = iprop(ready c (Memref.whole cc0_scratch0) (Memref.whole cc0_scratch1)
      (Memref.whole cc0_scratch2) (Memref.whole cc0_scratch3) (Memref.whole cc0_scratch4)
      (V m c main_arg4) (V m c main_v1) (V m c main_v2) (V m c main_arg3) (V m c main_v3) ∗ ∃ r, prngReg c r) := by
    have h : (Fin.last (cfg0 (F := F)).N).val ≠ 0 := by
      show grid0.N ≠ 0
      rw [N_0]; decide
    have : scr m c (Fin.last (cfg0 (F := F)).N).val = ready c (Memref.whole cc0_scratch0) (Memref.whole cc0_scratch1)
      (Memref.whole cc0_scratch2) (Memref.whole cc0_scratch3) (Memref.whole cc0_scratch4)
      (V m c main_arg4) (V m c main_v1) (V m c main_v2) (V m c main_arg3) (V m c main_v3) := if_neg h
    rw [← this]
    rfl
  rw [e]
  unfold Pipeline.ΦA ready
  rw [scopedRest0_eq]
  simp only [owns_whole]
  iintro ⟨⟨H0, ⟨%X9, -, H1⟩, H2, %H, %N, -, H3, H4⟩, HR⟩
  isplitr [HR]
  swap; · iexact HR
  isplitl [H0]; · iexists _; iexact H0
  isplitl [H1]; · iexists _; iexact H1
  isplitl [H2]; · iexists _; iexact H2
  isplitl [H3]; · iexists _; iexact H3
  iexists _; iexact H4

set_option backward.isDefEq.respectTransparency.types false in
set_option maxHeartbeats 800000 in
/-- The run: every array of the pipeline ends at what the write-backs leave, every other buffer as the region found it,
every semaphore at zero. -/
theorem run_main_quiescent (hids : ∀ c : Dev nD, IdsOk (m ((c : Thread nD τ).loc main_arg4))) :
    θ_run defs (onTc (τ := τ) (main (F := F))) (s₀ m ρ)
      (fun r => Pipeline.FramePost cfgs (dats m) 0 (V m) r ∧ r.2.sem = fun _ => 0) :=
  Pipeline.θ_run_frame_track cfgs (dats m) (0 : Fin 1) launch0 defs₀ 𝒱₀ m ρ main
    (hbody := fun c => (body_obligation m hids c).loose) (hshare := fun c => (dats m 0 c).share_full fun _ => rfl)
    (howed := fun _ _ => rfl) (V := V m) (hmain := hmain m) (hA := A_eq m) (hin := hin m) (hout := hout m)
    (Q' := fun r => Pipeline.FramePost cfgs (dats m) 0 (V m) r ∧ r.2.sem = fun _ => 0) (hQ' := fun _ h => h)

/-- What the run leaves: the result array at what the write-backs leave, the arguments unchanged, the semaphores at zero. -/
theorem run (hids : ∀ c : Dev nD, IdsOk (m ((c : Thread nD τ).loc main_arg4))) :
    θ_run defs (onTc (τ := τ) (main (F := F))) ⟨m, fun _ => 0, ρ⟩ (fun r => (∀ c : Dev nD,
      r.2.mem ((c.tc : Thread nD τ).loc main_v4) = (dats m 0 c).arrAt 6 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 6,
      ((h.1 c).2 main_arg0 (Pipeline.mem_restRefs_of main_arg0 (by decide) (show ∀ w : Fin 7, (spec0 w).arr.view.ref ≠ main_arg0 by decide))).trans (V_main_arg0 m c),
      ((h.1 c).2 main_arg1 (Pipeline.mem_restRefs_of main_arg1 (by decide) (show ∀ w : Fin 7, (spec0 w).arr.view.ref ≠ main_arg1 by decide))).trans (V_main_arg1 m c),
      ((h.1 c).2 main_arg2 (Pipeline.mem_restRefs_of main_arg2 (by decide) (show ∀ w : Fin 7, (spec0 w).arr.view.ref ≠ main_arg2 by decide))).trans (V_main_arg2 m c),
      ((h.1 c).1 4).trans (((dats m 0 c).arrAt_in 4 rfl _).trans ((A_eq m c 4).trans (V_main_arg3 m c))),
      ((h.1 c).1 0).trans (((dats m 0 c).arrAt_in 0 rfl _).trans ((A_eq m c 0).trans (V_main_arg4 m c))),
      ((h.1 c).2 main_arg5 (Pipeline.mem_restRefs_of main_arg5 (by decide) (show ∀ w : Fin 7, (spec0 w).arr.view.ref ≠ main_arg5 by decide))).trans (V_main_arg5 m c)⟩, h.2⟩)
    (run_main_quiescent m ρ hids)

end Cert.Proof.KI
end
end
-- ==== Proof.K.KernWalk.lean ====
module

public import proofs.«01_k».proof.Proof.K.Model
public import proofs.«01_k».proof.Proof.Gen.Kernel.Loops
public import proofs.«01_k».proof.Proof.Gen.Kernel.Launch
public import proofs.«01_k».proof.Proof.Gen.Kernel.Points
public import Idealize.ShloMosaic.Lib.Pipeline.Kit
public import Idealize.ShloMosaic.Lib.Pipeline.Frame
public import Idealize.ShloMosaic.Lib.Pipeline.FrameBody
public import Idealize.ShloMosaic.Lib.Pipeline.Sound

/-! # `Kernel`: the walk over a block's tokens and the two counted loops

The walk (the `while` of the body) follows the links from a block's head and adds one row per token; the first counted
loop clears the heads, the second links every token in front of its block's list. -/

@[expose] public section
noncomputable section

namespace Cert.Proof.KB

open Cert.Kernel Cert.Kernel.Gen Cert.Proof.K
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The variants of the walk's recursion: the number of tokens left. -/
abbrev 𝒱₀ : Variants := Variants.nat

section Walk

variable (c : Dev nD) (i : grid0.Coords)
  (arg1 : Memref sig .tc .smem S1x256 .i32) (harg1 : arg1.IsWhole) (arg7 : Memref sig .tc .vmem S384x2560 .f32) (harg7 : arg7.IsWhole)
  (arg10 : Memref sig .tc .vmem S256x2560 .f32) (harg10 : arg10.IsWhole) (arg12 : Memref sig .tc .smem S256 .i32) (harg12 : arg12.IsWhole)
  (X1 : S1x256.Idx → BitVec 32) (X10 : S256x2560.Idx → F .f32) (N : S256.Idx → BitVec 32)

/-- What the walk holds: the ids, the block at `X7`, the widened embedding gradient, the links. -/
def held (X7 : S384x2560.Idx → F .f32) : sProp 𝕄 :=
  iprop(owns (c : Thread nD τ) arg1 fullShare X1 ∗ owns (c : Thread nD τ) arg7 fullShare X7
    ∗ owns (c : Thread nD τ) arg10 fullShare X10 ∗ owns (c : Thread nD τ) arg12 fullShare N)

/-- The walk's specification with the tokens `L` to visit: the block gains their rows. -/
def spec (L : List ℕ) (X7 : S384x2560.Idx → F .f32) : sWPT 𝕄 (BitVec 32) := do
  sWPT.consume (held c arg1 arg7 arg10 arg12 X1 X10 N X7)
  let r ← sWPT.arbitrary
  sWPT.produce (held c arg1 arg7 arg10 arg12 X1 X10 N (rowsAdd X1 (i 0).val X10 L X7))
  pure r

theorem spec_apply (L : List ℕ) (X7 : S384x2560.Idx → F .f32) (K : BitVec 32 → sProp 𝕄) :
    spec c i arg1 arg7 arg10 arg12 X1 X10 N L X7 K
      = iprop(held c arg1 arg7 arg10 arg12 X1 X10 N X7
        ∗ ∀ r : BitVec 32, (held c arg1 arg7 arg10 arg12 X1 X10 N (rowsAdd X1 (i 0).val X10 L X7) -∗ K r)) := rfl

/-- The walk meets its specification, by induction on the tokens left. -/
theorem spec_le (E : Set ℕ) : ∀ (L : List ℕ) (p : BitVec 32), Chain N p L →
    (∀ t ∈ L, (idn X1 t).toNat < 50304 ∧ (idn X1 t).toNat / 384 = (i 0).val) → ∀ X7 K,
    spec c i arg1 arg7 arg10 arg12 X1 X10 N L X7 K
      ⊢ wp frame (wpE (defs₀ (F := F)) 𝒱₀ (c : Thread nD τ) (some L.length)) E
          (defs₀ (F := F) .tc 1 ⟨i, arg1, harg1, arg7, harg7, arg10, harg10, arg12, harg12, p⟩) K := by
  intro L
  induction L with
  | nil =>
    intro p hp _ X7 K
    rw [spec_apply]
    show _ ⊢ wp frame (wpE (defs₀ (F := F)) 𝒱₀ (c : Thread nD τ) (some 0)) E
      (cc0_while1 i arg1 harg1 arg7 harg7 arg10 harg10 arg12 harg12 p) K
    simp only [cc0_while1_eq_skeleton]; unfold cc0_while1_skel
    have htest : ¬ Scalar.cmpi .sge p 0#32 = 1#1 := by rw [show p = 4294967295#32 from hp]; exact sge_end
    simp only [htest, ↓reduceIte, Prog.pure_eq_ret]
    iintro ⟨H, Hk⟩
    rw [wp_ret]; imodintro
    iapply Hk
    simp only [rowsAdd]; iexact H
  | cons t L ih =>
    intro p hp hL X7 K
    obtain ⟨hv, ht, hc⟩ := hp
    subst hv
    obtain ⟨hid, hblk⟩ := hL t List.mem_cons_self
    have hidn : idn X1 t = X1 (ix2 (0 : Fin 1) (⟨t, ht⟩ : Fin 256)) := by unfold idn; rw [dif_pos ht]
    rw [spec_apply]
    show _ ⊢ wp frame (wpE (defs₀ (F := F)) 𝒱₀ (c : Thread nD τ) (some (L.length + 1))) E
      (cc0_while1 i arg1 harg1 arg7 harg7 arg10 harg10 arg12 harg12 (BitVec.ofNat 32 t)) K
    simp only [cc0_while1_eq_skeleton]; unfold cc0_while1_skel
    have htest : Scalar.cmpi .sge (BitVec.ofNat 32 t) 0#32 = 1#1 := sge_tok t ht
    simp only [htest, ↓reduceIte, smemLoad, smemLoadElt, Prog.lift, Prog.bind_op, Prog.bind_ret, Prog.pure_eq_ret]
    unfold held
    iintro ⟨⟨H1, H7, H10, H12⟩, Hk⟩
    iapply (wp_assume 𝒱₀ (c : Thread nD τ) (some (L.length + 1)) E (chk2_of t ht))
    iapply (wp_load_word 𝒱₀ (c : Thread nD τ) (some (L.length + 1)) E (m := arg1) (idn X1 t)
      (fun x => by exact (congrArg X1 (emb_word2 _ _ (off7_eq t ht) ht x)).trans hidn.symm)) $$ H1; iintro H1
    iapply (wp_assume 𝒱₀ (c : Thread nD τ) (some (L.length + 1)) E (chk3_of i (idn X1 t) hid hblk))
    iapply (wp_load_owns 𝒱₀ (c : Thread nD τ) (some (L.length + 1)) E (m := arg7)) $$ H7; iintro H7
    iapply (wp_load_owns 𝒱₀ (c : Thread nD τ) (some (L.length + 1)) E (m := arg10)) $$ H10; iintro H10
    iapply (wp_load_owns 𝒱₀ (c : Thread nD τ) (some (L.length + 1)) E (m := arg7)) $$ H7; iintro H7
    iapply (wp_store_to 𝒱₀ (c : Thread nD τ) (some (L.length + 1)) E (m := arg7)
      (rowAdd X10 X7 ((idn X1 t).toNat - 384 * (i 0).val) t)
      (by exact rowAdd_upd X10 X7 ((idn X1 t).toNat - 384 * (i 0).val) t (by omega) ht _ _ (off8_eq i (idn X1 t) hid hblk)
            (off9_eq t ht) _ _)) $$ H7; iintro H7
    iapply (wp_load_word 𝒱₀ (c : Thread nD τ) (some (L.length + 1)) E (m := arg12) (N (ix1 (⟨t, ht⟩ : Fin 256)))
      (fun x => by exact congrArg N (emb_word _ _ (off10_eq t ht) ht x))) $$ H12; iintro H12
    iapply (wp_call_spec 𝒱₀ (c : Thread nD τ) (some (L.length + 1)) E
      (spec c i arg1 arg7 arg10 arg12 X1 X10 N L (rowAdd X10 X7 ((idn X1 t).toNat - 384 * (i 0).val) t)) L.length
      (fun u hu => by cases hu; exact Nat.lt_succ_self L.length)
      (ih _ hc (fun t' h' => hL t' (List.mem_cons_of_mem _ h')) (rowAdd X10 X7 ((idn X1 t).toNat - 384 * (i 0).val) t)))
    rw [spec_apply]; unfold held
    isplitl [H1 H7 H10 H12]
    · isplitl [H1]; · iexact H1
      isplitl [H7]; · iexact H7
      isplitl [H10]; · iexact H10
      iexact H12
    iintro %r H
    rw [wp_ret]; imodintro
    iapply Hk
    simp only [rowsAdd]
    iexact H

end Walk

section Loops

variable (c : Dev nD) (i : grid0.Coords) (arg1 : Memref sig .tc .smem S1x256 .i32) (harg1 : arg1.IsWhole) (arg2 : Memref sig .tc .vmem S256x384 .fp8e5m2) (harg2 : arg2.IsWhole) (arg3 : Memref sig .tc .vmem S256x393 .f32) (harg3 : arg3.IsWhole) (arg4 : Memref sig .tc .vmem S256x2560 .fp8e4m3) (harg4 : arg4.IsWhole) (arg5 : Memref sig .tc .vmem S1x256 .f32) (harg5 : arg5.IsWhole) (arg6 : Memref sig .tc .vmem S256x2560 .bf16) (harg6 : arg6.IsWhole) (arg7 : Memref sig .tc .vmem S384x2560 .f32) (harg7 : arg7.IsWhole) (arg8 : Memref sig .tc .vmem S256x2560 .bf16) (harg8 : arg8.IsWhole) (arg9 : Memref sig .tc .vmem S400x256 .f32) (harg9 : arg9.IsWhole) (arg10 : Memref sig .tc .vmem S256x2560 .f32) (harg10 : arg10.IsWhole) (arg11 : Memref sig .tc .smem S131 .i32) (harg11 : arg11.IsWhole) (arg12 : Memref sig .tc .smem S256 .i32) (harg12 : arg12.IsWhole) (k0_h1 : k0_cond1 i = 1#1)

/-- Before trip `k` of the clearing loop the first `k` heads are the end mark. -/
def clearInv (k : ℕ) : sProp 𝕄 :=
  iprop(∃ H : S131.Idx → BitVec 32, ⌜∀ b : Fin 131, b.val < k → H (ix1 b) = 4294967295#32⌝ ∗ owns (c : Thread nD τ) arg11 fullShare H)

theorem clear_step (k : Fin k0_t1_loop.trips) (acc : Unit) :
    clearInv (F := F) c arg11 k.val
      ⊢ wp frame (wpE (defs₀ (F := F)) 𝒱₀ (c : Thread nD τ) none) Set.univ
        (k0_t1_body (F := F) i arg1 harg1 arg2 harg2 arg3 harg3 arg4 harg4 arg5 harg5 arg6 harg6 arg7 harg7 arg8 harg8 arg9 harg9 arg10 harg10 arg11 harg11 arg12 harg12 k0_h1 k acc)
        (fun _ => clearInv (F := F) c arg11 (k.val + 1)) := by
  obtain ⟨hk, hoff⟩ := off1_eq k
  unfold k0_t1_body clearInv
  simp only [smemLoad, smemLoadElt, Prog.lift, Prog.bind_op, Prog.bind_ret, Prog.pure_eq_ret]
  iintro ⟨%H, %hH, H11⟩
  iapply (wp_load_owns 𝒱₀ (c : Thread nD τ) none Set.univ (m := arg11)) $$ H11; iintro H11
  iapply (wp_store_owns 𝒱₀ (c : Thread nD τ) none Set.univ (m := arg11)) $$ H11; iintro H11
  rw [wp_ret]; imodintro
  iexists _
  isplitr [H11]
  swap
  · iexact H11
  · ipureintro
    intro b hb
    refine (upd_word H _ _ _ b hoff).trans ?_
    by_cases h : b.val = k.val
    · rw [if_pos h]
    · rw [if_neg h]; exact hH b (by omega)

variable (X1 : S1x256.Idx → BitVec 32)

/-- Before trip `k` of the linking loop the last `k` tokens are linked. -/
def linkInv (k : ℕ) : sProp 𝕄 :=
  iprop(owns (c : Thread nD τ) arg1 fullShare X1 ∗ ∃ H : S131.Idx → BitVec 32, ∃ N : S256.Idx → BitVec 32,
    ⌜Linked X1 k H N⌝ ∗ owns (c : Thread nD τ) arg11 fullShare H ∗ owns (c : Thread nD τ) arg12 fullShare N)

theorem link_step (hX : IdsOk X1) (k : Fin k0_t2_loop.trips) (acc : Unit) :
    linkInv (F := F) c arg1 arg11 arg12 X1 k.val
      ⊢ wp frame (wpE (defs₀ (F := F)) 𝒱₀ (c : Thread nD τ) none) Set.univ
        (k0_t2_body (F := F) i arg1 harg1 arg2 harg2 arg3 harg3 arg4 harg4 arg5 harg5 arg6 harg6 arg7 harg7 arg8 harg8 arg9 harg9 arg10 harg10 arg11 harg11 arg12 harg12 k0_h1 k acc)
        (fun _ => linkInv (F := F) c arg1 arg11 arg12 X1 (k.val + 1)) := by
  obtain ⟨hk, -⟩ := iv_t2 k
  have hid := hX (255 - k.val)
  have ht : 255 - k.val < 256 := by omega
  have hidn : idn X1 (255 - k.val) = X1 (ix2 (0 : Fin 1) (⟨255 - k.val, ht⟩ : Fin 256)) := by unfold idn; rw [dif_pos ht]
  unfold k0_t2_body linkInv
  simp only [smemLoad, smemLoadElt, Prog.lift, Prog.bind_op, Prog.bind_ret, Prog.pure_eq_ret]
  iintro ⟨H1, %H, %N, %hL, H11, H12⟩
  iapply (wp_load_word 𝒱₀ (c : Thread nD τ) none Set.univ (m := arg1) (idn X1 (255 - k.val))
    (fun x => by exact (congrArg X1 (emb_word2 _ _ (off2_eq k) ht x)).trans hidn.symm)) $$ H1; iintro H1
  iapply (wp_assume 𝒱₀ (c : Thread nD τ) none Set.univ (chk1_of i (idn X1 (255 - k.val)) hid))
  have hb : (idn X1 (255 - k.val)).toNat / 384 < 131 := by omega
  iapply (wp_load_word 𝒱₀ (c : Thread nD τ) none Set.univ (m := arg11)
    (H (ix1 (⟨(idn X1 (255 - k.val)).toNat / 384, hb⟩ : Fin 131)))
    (fun x => by exact congrArg H (emb_word _ _ (off3_eq _ hid) hb x))) $$ H11; iintro H11
  iapply (wp_load_owns 𝒱₀ (c : Thread nD τ) none Set.univ (m := arg12)) $$ H12; iintro H12
  iapply (wp_store_owns 𝒱₀ (c : Thread nD τ) none Set.univ (m := arg12)) $$ H12; iintro H12
  iapply (wp_load_owns 𝒱₀ (c : Thread nD τ) none Set.univ (m := arg11)) $$ H11; iintro H11
  iapply (wp_store_owns 𝒱₀ (c : Thread nD τ) none Set.univ (m := arg11)) $$ H11; iintro H11
  rw [wp_ret]; imodintro
  isplitl [H1]; · iexact H1
  iexists _
  iexists _
  isplitr [H11 H12]
  swap
  · isplitl [H11]
    · iexact H11
    · iexact H12
  · ipureintro
    refine linked_step X1 k.val hk H _ N _ hid hL (fun b => ?_) (fun t => ?_)
    · exact (upd_word H _ _ _ b (off3_eq _ hid)).trans
        (congrArg (fun w => if b.val = (idn X1 (255 - k.val)).toNat / 384 then w else H (ix1 b)) (tok_t2 k))
    · exact upd_word N _ _ _ t (off4_eq k)

end Loops

end Cert.Proof.KB
end
end
-- ==== Proof.K.KernBody.lean ====
module

public import proofs.«01_k».proof.Proof.K.Columns
public import proofs.«01_k».proof.Proof.K.KernWalk

/-! # `Kernel`: one grid point

The first grid point prepares the scratch arrays; every grid point computes its block from them and walks its tokens. -/

@[expose] public section
noncomputable section

namespace Cert.Proof.KB

open Cert.Kernel Cert.Kernel.Gen Cert.Proof.K
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section Programs

variable (i : grid0.Coords) (arg1 : Memref sig .tc .smem S1x256 .i32) (harg1 : arg1.IsWhole) (arg2 : Memref sig .tc .vmem S256x384 .fp8e5m2) (harg2 : arg2.IsWhole) (arg3 : Memref sig .tc .vmem S256x393 .f32) (harg3 : arg3.IsWhole) (arg4 : Memref sig .tc .vmem S256x2560 .fp8e4m3) (harg4 : arg4.IsWhole) (arg5 : Memref sig .tc .vmem S1x256 .f32) (harg5 : arg5.IsWhole) (arg6 : Memref sig .tc .vmem S256x2560 .bf16) (harg6 : arg6.IsWhole) (arg7 : Memref sig .tc .vmem S384x2560 .f32) (harg7 : arg7.IsWhole) (arg8 : Memref sig .tc .vmem S256x2560 .bf16) (harg8 : arg8.IsWhole) (arg9 : Memref sig .tc .vmem S400x256 .f32) (harg9 : arg9.IsWhole) (arg10 : Memref sig .tc .vmem S256x2560 .f32) (harg10 : arg10.IsWhole) (arg11 : Memref sig .tc .smem S131 .i32) (harg11 : arg11.IsWhole) (arg12 : Memref sig .tc .smem S256 .i32) (harg12 : arg12.IsWhole)

/-- The first grid point's preparation, then `kk`. -/
def prep (k0_h1 : k0_cond1 i = 1#1) (kk : PUnit.{1} → Prog (TpuEff nD τ sig (Elt F) (Λ₀ F) .tc) PUnit) :
    Prog (TpuEff nD τ sig (Elt F) (Λ₀ F) .tc) PUnit := do
  let ⟨v42, v73⟩ : Σ' (v42 : FVec F S256x128 .bf16), FVec F S256x128 .bf16 ← k0_part1 i arg1 harg1 arg2 harg2 arg3 harg3 arg4 harg4 arg5 harg5 arg6 harg6 arg7 harg7 arg8 harg8 arg9 harg9 arg10 harg10 arg11 harg11 arg12 harg12
  let v108 : FVec F S256x128 .bf16 ← k0_part2 i arg1 harg1 arg2 harg2 arg3 harg3 arg4 harg4 arg5 harg5 arg6 harg6 arg7 harg7 arg8 harg8 arg9 harg9 arg10 harg10 arg11 harg11 arg12 harg12 v42 v73
  let v143 : FVec F S256x128 .bf16 ← k0_part3 i arg1 harg1 arg2 harg2 arg3 harg3 arg4 harg4 arg5 harg5 arg6 harg6 arg7 harg7 arg8 harg8 arg9 harg9 arg10 harg10 arg11 harg11 arg12 harg12 v42 v108
  let v178 : FVec F S256x128 .bf16 ← k0_part4 i arg1 harg1 arg2 harg2 arg3 harg3 arg4 harg4 arg5 harg5 arg6 harg6 arg7 harg7 arg8 harg8 arg9 harg9 arg10 harg10 arg11 harg11 arg12 harg12 v42 v143
  let v180 : Vec F S256x128 .bf16 ← Prog.lift (.load arg8 (Rect.unit (s := S256x2560) ![0, 2432] S256x128.size inb_S256x2560_S256x128_0_2432).toLoadRect (View.loadsAt_vmem h_S256x128))
  Prog.lift (.store arg8 (Rect.unit (s := S256x2560) ![0, 2432] S256x128.size inb_S256x2560_S256x128_0_2432) (k0_pay1 v42 v178) Finset.univ (View.stores_vmem h_S256x128 (harg8.storeExact_slice rfl _ packedbf16_S256x2560_S256x128_0_2432) (fun _ => rfl)) (.inl rfl))
  let v183 : Vec F S256x2560 .bf16 ← Prog.lift (.load arg6 (Rect.unit (s := S256x2560) ![0, 0] S256x2560.size inb_S256x2560_S256x2560_0_0).toLoadRect (View.loadsAt_vmem h_S256x2560))
  let v186 : Vec F S256x2560 .f32 ← Prog.lift (.load arg10 (Rect.unit (s := S256x2560) ![0, 0] S256x2560.size inb_S256x2560_S256x2560_0_0).toLoadRect (View.loadsAt_vmem h_S256x2560))
  Prog.lift (.store arg10 (Rect.unit (s := S256x2560) ![0, 0] S256x2560.size inb_S256x2560_S256x2560_0_0) (k0_pay2 v183) Finset.univ (View.stores_vmem_bits_univ h_S256x2560 rfl) (.inl rfl))
  let v189 : Vec F S256x393 .f32 ← Prog.lift (.load arg3 (Rect.unit (s := S256x393) ![0, 0] S256x393.size inb_S256x393_S256x393_0_0).toLoadRect (View.loadsAt_vmem h_S256x393))
  let v192 : Vec F S393x256 .f32 ← Prog.lift (.load arg9 (Rect.unit (s := S400x256) ![0, 0] S393x256.size inb_S400x256_S393x256_0_0).toLoadRect (View.loadsAt_vmem h_S393x256))
  Prog.lift (.store arg9 (Rect.unit (s := S400x256) ![0, 0] S393x256.size inb_S400x256_S393x256_0_0) (k0_pay3 v189) Finset.univ (View.stores_vmem_bits_univ h_S393x256 rfl) (.inl rfl))
  Scf.Loop.for k0_t1_loop (k0_t1_ok i k0_h1) ⟨⟩ (k0_t1_body i arg1 harg1 arg2 harg2 arg3 harg3 arg4 harg4 arg5 harg5 arg6 harg6 arg7 harg7 arg8 harg8 arg9 harg9 arg10 harg10 arg11 harg11 arg12 harg12 k0_h1)
  Scf.Loop.for k0_t2_loop (k0_t2_ok i k0_h1) ⟨⟩ (k0_t2_body i arg1 harg1 arg2 harg2 arg3 harg3 arg4 harg4 arg5 harg5 arg6 harg6 arg7 harg7 arg8 harg8 arg9 harg9 arg10 harg10 arg11 harg11 arg12 harg12 k0_h1)
  kk ⟨⟩

/-- What every grid point does. -/
def tail : Prog (TpuEff nD τ sig (Elt F) (Λ₀ F) .tc) PUnit := do
  let v3 : Vec F S256x384 .fp8e5m2 ← Prog.lift (.load arg2 (Rect.unit (s := S256x384) ![0, 0] S256x384.size inb_S256x384_S256x384_0_0).toLoadRect (View.loadsAt_vmem h_S256x384))
  let v10 : Vec F S1x256 .f32 ← Prog.lift (.load arg9 (Rect.unit (s := S400x256) (k0_off5 i 0#32) S1x256.size (k0_off5_inb i 0)).toLoadRect (View.loadsAt_vmem h_S1x256))
  let v18 : Vec F S1x256 .f32 ← Prog.lift (.load arg9 (Rect.unit (s := S400x256) (k0_off5 i 1#32) S1x256.size (k0_off5_inb i 1)).toLoadRect (View.loadsAt_vmem h_S1x256))
  let v26 : Vec F S1x256 .f32 ← Prog.lift (.load arg9 (Rect.unit (s := S400x256) (k0_off5 i 2#32) S1x256.size (k0_off5_inb i 2)).toLoadRect (View.loadsAt_vmem h_S1x256))
  let v32 : Vec F S256x2560 .bf16 ← Prog.lift (.load arg8 (Rect.unit (s := S256x2560) ![0, 0] S256x2560.size inb_S256x2560_S256x2560_0_0).toLoadRect (View.loadsAt_vmem h_S256x2560))
  let v34 : Vec F S384x2560 .f32 ← Prog.lift (.load arg7 (Rect.unit (s := S384x2560) ![0, 0] S384x2560.size inb_S384x2560_S384x2560_0_0).toLoadRect (View.loadsAt_vmem h_S384x2560))
  Prog.lift (.store arg7 (Rect.unit (s := S384x2560) ![0, 0] S384x2560.size inb_S384x2560_S384x2560_0_0) (k0_pay4 v3 v10 v18 v26 v32) Finset.univ (View.stores_vmem_bits_univ h_S384x2560 rfl) (.inl rfl))
  let v36 : Elt F .i32 ← smemLoad arg11 (Rect.unit (s := S131) (k0_off6 i) S1.size (k0_off6_inb i)) numel1_S1 rfl
  let v37 : BitVec 32 ← Prog.lift (.call (1 : (Λ₀ F).Label) ⟨i, arg1, harg1, arg7, harg7, arg10, harg10, arg12, harg12, v36⟩)
  pure ⟨⟩

/-- The body is the preparation at the first grid point, and then the part every grid point runs. -/
theorem skel_eq : cc0_tied_embedding_grad_skel (F := F) i arg1 harg1 arg2 harg2 arg3 harg3 arg4 harg4 arg5 harg5 arg6 harg6 arg7 harg7 arg8 harg8 arg9 harg9 arg10 harg10 arg11 harg11 arg12 harg12
    = if h : k0_cond1 i = 1#1 then prep i arg1 harg1 arg2 harg2 arg3 harg3 arg4 harg4 arg5 harg5 arg6 harg6 arg7 harg7 arg8 harg8 arg9 harg9 arg10 harg10 arg11 harg11 arg12 harg12 h
        (fun _ => tail i arg1 harg1 arg2 arg7 harg7 arg8 arg9 arg10 harg10 arg11 arg12 harg12)
      else tail i arg1 harg1 arg2 arg7 harg7 arg8 arg9 arg10 harg10 arg11 arg12 harg12 := rfl

end Programs

section Column

variable (c : Dev nD) (arg4 : Memref sig .tc .vmem S256x2560 .fp8e4m3) (arg8 : Memref sig .tc .vmem S256x2560 .bf16)
  (X4 : S256x2560.Idx → F .fp8e4m3) (X5 : S1x256.Idx → F .f32)

/-- The codes, and the scaled hidden states right in the first `n` columns. -/
def colInv (n : ℕ) : sProp 𝕄 :=
  iprop(owns (c : Thread nD τ) arg4 fullShare X4
    ∗ ∃ X8 : S256x2560.Idx → F .bf16, ⌜ColsOk X4 X5 n X8⌝ ∗ owns (c : Thread nD τ) arg8 fullShare X8)

/-- One column group: load the codes, scale them, store them. -/
theorem wp_col (n : ℕ) {inb : ∀ a, (![0, n] : Fin 2 → ℕ) a + S256x128.size a ≤ S256x2560.size a}
    {w : (S256x128.Idx → F .fp8e4m3) → S256x128.Idx → F .bf16} (hw : ∀ v, w v = colW X5 v)
    {hl : arg4.view.LoadsAt (Rect.unit (s := S256x2560) ![0, n] S256x128.size inb).toLoadRect}
    {hl' : arg8.view.LoadsAt (Rect.unit (s := S256x2560) ![0, n] S256x128.size inb).toLoadRect}
    {hx : (arg8.access (Rect.unit (s := S256x2560) ![0, n] S256x128.size inb)).Stores Finset.univ}
    {hm : Finset.univ = Finset.univ ∨ ∀ a, (Rect.unit (s := S256x2560) ![0, n] S256x128.size inb).stride a = 1}
    {kk : PUnit → Prog (TpuEff nD τ sig (Elt F) (Λ₀ F) .tc) PUnit} {Q : PUnit → sProp 𝕄} :
    colInv c arg4 arg8 X4 X5 n
      ⊢ iprop((colInv c arg4 arg8 X4 X5 (n + 128) -∗ wp frame (wpE (defs₀ (F := F)) 𝒱₀ (c : Thread nD τ) none) Set.univ (kk ⟨⟩) Q)
        -∗ wp frame (wpE (defs₀ (F := F)) 𝒱₀ (c : Thread nD τ) none) Set.univ
          (.op (.load arg4 (Rect.unit (s := S256x2560) ![0, n] S256x128.size inb).toLoadRect hl) fun (v : Vec F S256x128 .fp8e4m3) =>
            .op (.load arg8 (Rect.unit (s := S256x2560) ![0, n] S256x128.size inb).toLoadRect hl') fun _ =>
            .op (.store arg8 (Rect.unit (s := S256x2560) ![0, n] S256x128.size inb) (w v) Finset.univ hx hm) kk) Q) := by
  unfold colInv
  iintro ⟨H4, %X8, %h8, H8⟩ K
  iapply (wp_load_owns 𝒱₀ (c : Thread nD τ) none Set.univ (m := arg4)) $$ H4; iintro H4
  iapply (wp_load_owns 𝒱₀ (c : Thread nD τ) none Set.univ (m := arg8)) $$ H8; iintro H8
  iapply (wp_store_to 𝒱₀ (c : Thread nD τ) none Set.univ (m := arg8)
    (upd X8 (Rect.unit (s := S256x2560) ![0, n] S256x128.size inb)
      (colW X5 fun x => X4 ((Rect.unit (s := S256x2560) ![0, n] S256x128.size inb).emb x))) (by rw [hw]; rfl)) $$ H8
  iintro H8
  iapply K
  isplitl [H4]; · iexact H4
  iexists _
  isplitr [H8]
  swap
  · iexact H8
  · ipureintro
    exact cols_step X4 X5 n X8 inb h8

end Column

section Body

variable (c : Dev nD) (i : grid0.Coords) (arg1 : Memref sig .tc .smem S1x256 .i32) (harg1 : arg1.IsWhole) (arg2 : Memref sig .tc .vmem S256x384 .fp8e5m2) (harg2 : arg2.IsWhole) (arg3 : Memref sig .tc .vmem S256x393 .f32) (harg3 : arg3.IsWhole) (arg4 : Memref sig .tc .vmem S256x2560 .fp8e4m3) (harg4 : arg4.IsWhole) (arg5 : Memref sig .tc .vmem S1x256 .f32) (harg5 : arg5.IsWhole) (arg6 : Memref sig .tc .vmem S256x2560 .bf16) (harg6 : arg6.IsWhole) (arg7 : Memref sig .tc .vmem S384x2560 .f32) (harg7 : arg7.IsWhole) (arg8 : Memref sig .tc .vmem S256x2560 .bf16) (harg8 : arg8.IsWhole) (arg9 : Memref sig .tc .vmem S400x256 .f32) (harg9 : arg9.IsWhole) (arg10 : Memref sig .tc .vmem S256x2560 .f32) (harg10 : arg10.IsWhole) (arg11 : Memref sig .tc .smem S131 .i32) (harg11 : arg11.IsWhole) (arg12 : Memref sig .tc .smem S256 .i32) (harg12 : arg12.IsWhole)
  (X1 : S1x256.Idx → BitVec 32) (X2 : S256x384.Idx → F .fp8e5m2) (X3 : S256x393.Idx → F .f32)
  (X4 : S256x2560.Idx → F .fp8e4m3) (X5 : S1x256.Idx → F .f32) (X6 : S256x2560.Idx → F .bf16)

/-- The scratch arrays once prepared. -/
def ready : sProp 𝕄 :=
  iprop(owns (c : Thread nD τ) arg8 fullShare (hhP X4 X5)
    ∗ (∃ X9 : S400x256.Idx → F .f32, ⌜RowsOk X3 X9⌝ ∗ owns (c : Thread nD τ) arg9 fullShare X9)
    ∗ owns (c : Thread nD τ) arg10 fullShare (d32P X6)
    ∗ ∃ H : S131.Idx → BitVec 32, ∃ N : S256.Idx → BitVec 32, ⌜Linked X1 256 H N⌝
      ∗ owns (c : Thread nD τ) arg11 fullShare H ∗ owns (c : Thread nD τ) arg12 fullShare N)

/-- The scratch arrays with arbitrary contents. -/
def raw : sProp 𝕄 :=
  iprop((∃ X8 : S256x2560.Idx → F .bf16, owns (c : Thread nD τ) arg8 fullShare X8)
    ∗ (∃ X9 : S400x256.Idx → F .f32, owns (c : Thread nD τ) arg9 fullShare X9)
    ∗ (∃ X10 : S256x2560.Idx → F .f32, owns (c : Thread nD τ) arg10 fullShare X10)
    ∗ (∃ H : S131.Idx → BitVec 32, owns (c : Thread nD τ) arg11 fullShare H)
    ∗ (∃ N : S256.Idx → BitVec 32, owns (c : Thread nD τ) arg12 fullShare N))

/-- The part every grid point runs: from prepared scratch arrays the output block ends at `outBlk`. -/
theorem tail_sound (hX : IdsOk X1) :
    iprop(owns (c : Thread nD τ) arg1 fullShare X1 ∗ owns (c : Thread nD τ) arg2 fullShare X2
        ∗ (∃ X7 : S384x2560.Idx → F .f32, owns (c : Thread nD τ) arg7 fullShare X7)
        ∗ ready c arg8 arg9 arg10 arg11 arg12 X1 X3 X4 X5 X6)
      ⊢ wp frame (wpE (defs₀ (F := F)) 𝒱₀ (c : Thread nD τ) none) Set.univ
        (tail (F := F) i arg1 harg1 arg2 arg7 harg7 arg8 arg9 arg10 harg10 arg11 arg12 harg12)
        (fun _ => iprop(owns (c : Thread nD τ) arg1 fullShare X1 ∗ owns (c : Thread nD τ) arg2 fullShare X2
          ∗ owns (c : Thread nD τ) arg7 fullShare (outBlk i X1 X2 X3 X4 X5 X6)
          ∗ ready c arg8 arg9 arg10 arg11 arg12 X1 X3 X4 X5 X6)) := by
  have hi : (i 0).val < 131 := (i 0).isLt
  unfold tail ready
  simp only [smemLoad, smemLoadElt, Prog.lift, Prog.bind_op, Prog.bind_ret, Prog.pure_eq_ret]
  iintro ⟨H1, H2, ⟨%X7, H7⟩, H8, ⟨%X9, %h9, H9⟩, H10, %H, %N, %hL, H11, H12⟩
  iapply (wp_load_to 𝒱₀ (c : Thread nD τ) none Set.univ (m := arg2) X2 (by exact load_full X2 _)) $$ H2; iintro H2
  iapply (wp_load_to 𝒱₀ (c : Thread nD τ) none Set.univ (m := arg9) (scRow X3 (3 * (i 0).val) (by omega))
    (by exact row_load X3 X9 h9 (3 * (i 0).val) (by omega) _ (off5_eq i 0) _)) $$ H9; iintro H9
  iapply (wp_load_to 𝒱₀ (c : Thread nD τ) none Set.univ (m := arg9) (scRow X3 (3 * (i 0).val + 1) (by omega))
    (by exact row_load X3 X9 h9 (3 * (i 0).val + 1) (by omega) _ (off5_eq i 1) _)) $$ H9; iintro H9
  iapply (wp_load_to 𝒱₀ (c : Thread nD τ) none Set.univ (m := arg9) (scRow X3 (3 * (i 0).val + 2) (by omega))
    (by exact row_load X3 X9 h9 (3 * (i 0).val + 2) (by omega) _ (off5_eq i 2) _)) $$ H9; iintro H9
  iapply (wp_load_to 𝒱₀ (c : Thread nD τ) none Set.univ (m := arg8) (hhP X4 X5) (by exact load_full (hhP X4 X5) _)) $$ H8; iintro H8
  iapply (wp_load_owns 𝒱₀ (c : Thread nD τ) none Set.univ (m := arg7)) $$ H7; iintro H7
  iapply (wp_store_to 𝒱₀ (c : Thread nD τ) none Set.univ (m := arg7) _ (by exact upd_full X7 _ _)) $$ H7; iintro H7
  iapply (wp_load_word 𝒱₀ (c : Thread nD τ) none Set.univ (m := arg11) (H (ix1 (⟨(i 0).val, hi⟩ : Fin 131)))
    (fun x => by exact congrArg H (emb_word _ _ (off6_eq i) hi x))) $$ H11; iintro H11
  iapply (wp_call_spec 𝒱₀ (c : Thread nD τ) none Set.univ
    (spec c i arg1 arg7 arg10 arg12 X1 (d32P X6) N (lst X1 (i 0).val 256) _) (lst X1 (i 0).val 256).length
    (fun u hu => nomatch hu)
    (spec_le c i arg1 harg1 arg7 harg7 arg10 harg10 arg12 harg12 X1 (d32P X6) N Set.univ (lst X1 (i 0).val 256)
      (H (ix1 (⟨(i 0).val, hi⟩ : Fin 131))) (hL ⟨(i 0).val, hi⟩)
      (fun t ht => ⟨hX t, (mem_lst X1 (i 0).val 256 le_rfl t ht).2.2⟩) _))
  rw [spec_apply]; unfold held
  isplitl [H1 H7 H10 H12]
  · isplitl [H1]; · iexact H1
    isplitl [H7]; · iexact H7
    isplitl [H10]; · iexact H10
    iexact H12
  iintro %r ⟨H1, H7, H10, H12⟩
  rw [wp_ret]; imodintro
  isplitl [H1]; · iexact H1
  isplitl [H2]; · iexact H2
  isplitl [H7]; · iexact H7
  isplitl [H8]; · iexact H8
  isplitl [H9]
  · iexists X9
    isplitr; · ipureintro; exact h9
    iexact H9
  isplitl [H10]; · iexact H10
  iexists H
  iexists N
  isplitr; · ipureintro; exact hL
  isplitl [H11]; · iexact H11
  iexact H12

end Body

end Cert.Proof.KB
end
end
-- ==== Proof.K.KernPrep.lean ====
module

public import proofs.«01_k».proof.Proof.K.KernBody

/-! # `Kernel`: the preparation, and the whole body

The first grid point scales the hidden states, widens the embedding gradient, transposes the scales and links the tokens. -/

@[expose] public section
noncomputable section

namespace Cert.Proof.KB

open Cert.Kernel Cert.Kernel.Gen Cert.Proof.K
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg1 : Memref sig .tc .smem S1x256 .i32) (harg1 : arg1.IsWhole) (arg2 : Memref sig .tc .vmem S256x384 .fp8e5m2) (harg2 : arg2.IsWhole) (arg3 : Memref sig .tc .vmem S256x393 .f32) (harg3 : arg3.IsWhole) (arg4 : Memref sig .tc .vmem S256x2560 .fp8e4m3) (harg4 : arg4.IsWhole) (arg5 : Memref sig .tc .vmem S1x256 .f32) (harg5 : arg5.IsWhole) (arg6 : Memref sig .tc .vmem S256x2560 .bf16) (harg6 : arg6.IsWhole) (arg7 : Memref sig .tc .vmem S384x2560 .f32) (harg7 : arg7.IsWhole) (arg8 : Memref sig .tc .vmem S256x2560 .bf16) (harg8 : arg8.IsWhole) (arg9 : Memref sig .tc .vmem S400x256 .f32) (harg9 : arg9.IsWhole) (arg10 : Memref sig .tc .vmem S256x2560 .f32) (harg10 : arg10.IsWhole) (arg11 : Memref sig .tc .smem S131 .i32) (harg11 : arg11.IsWhole) (arg12 : Memref sig .tc .smem S256 .i32) (harg12 : arg12.IsWhole)
  (X1 : S1x256.Idx → BitVec 32) (X2 : S256x384.Idx → F .fp8e5m2) (X3 : S256x393.Idx → F .f32)
  (X4 : S256x2560.Idx → F .fp8e4m3) (X5 : S1x256.Idx → F .f32) (X6 : S256x2560.Idx → F .bf16)

/-- The preparation: from arbitrary scratch arrays the continuation runs with the prepared ones. -/
theorem prep_sound (hX : IdsOk X1) (k0_h1 : k0_cond1 i = 1#1) (kk : PUnit.{1} → Prog (TpuEff nD τ sig (Elt F) (Λ₀ F) .tc) PUnit)
    (Q : PUnit → sProp 𝕄) :
    iprop((owns (c : Thread nD τ) arg1 fullShare X1 ∗ owns (c : Thread nD τ) arg3 fullShare X3
        ∗ owns (c : Thread nD τ) arg4 fullShare X4 ∗ owns (c : Thread nD τ) arg5 fullShare X5
        ∗ owns (c : Thread nD τ) arg6 fullShare X6 ∗ raw (F := F) c arg8 arg9 arg10 arg11 arg12)
      ∗ (iprop(owns (c : Thread nD τ) arg1 fullShare X1 ∗ owns (c : Thread nD τ) arg3 fullShare X3
        ∗ owns (c : Thread nD τ) arg4 fullShare X4 ∗ owns (c : Thread nD τ) arg5 fullShare X5
        ∗ owns (c : Thread nD τ) arg6 fullShare X6 ∗ ready c arg8 arg9 arg10 arg11 arg12 X1 X3 X4 X5 X6)
        -∗ wp frame (wpE (defs₀ (F := F)) 𝒱₀ (c : Thread nD τ) none) Set.univ (kk ⟨⟩) Q))
      ⊢ wp frame (wpE (defs₀ (F := F)) 𝒱₀ (c : Thread nD τ) none) Set.univ (prep (F := F) i arg1 harg1 arg2 harg2 arg3 harg3 arg4 harg4 arg5 harg5 arg6 harg6 arg7 harg7 arg8 harg8 arg9 harg9 arg10 harg10 arg11 harg11 arg12 harg12 k0_h1 kk) Q := by
  unfold prep raw
  simp only [k0_part1_eq_skeleton, k0_part1_skel, k0_part2_eq_skeleton, k0_part2_skel, k0_part3_eq_skeleton, k0_part3_skel,
    k0_part4_eq_skeleton, k0_part4_skel, Prog.lift, Prog.bind_op, Prog.bind_ret, Prog.pure_eq_ret]
  iintro ⟨⟨H1, H3, H4, H5, H6, ⟨%X8, H8⟩, ⟨%X9, H9⟩, ⟨%X10, H10⟩, ⟨%H, H11⟩, %N, H12⟩, K⟩
  iapply (wp_load_to 𝒱₀ (c : Thread nD τ) none Set.univ (m := arg5) X5 (by exact load_full X5 _)) $$ H5; iintro H5
  ihave C : colInv (F := F) c arg4 arg8 X4 X5 0 $$ [H4 H8]
  · unfold colInv
    isplitl [H4]; · iexact H4
    iexists X8
    isplitr; · ipureintro; exact fun y hy => absurd hy (Nat.not_lt_zero _)
    iexact H8
  iterate 20
    iapply (wp_col c arg4 arg8 X4 X5 _ (by
      intro v
      simp only [k0_pay1, k0_pay7, k0_pay8, k0_pay9, k0_pay10, k0_pay11, k0_pay12, k0_pay13, k0_pay14, k0_pay15, k0_pay16,
        k0_pay17, k0_pay18, k0_pay19, k0_pay20, k0_pay21, k0_pay22, k0_pay23, k0_pay24, k0_pay25, k0_pay26, k0_pay27,
        k0_pay28, k0_pay29, shapeCast_self]
      exact col_eq X5 v)) $$ C
    iintro C
  unfold colInv
  icases C with ⟨H4, %Y8, %h8, H8⟩
  have e8 := cols_full X4 X5 Y8 h8
  subst e8
  iapply (wp_load_to 𝒱₀ (c : Thread nD τ) none Set.univ (m := arg6) X6 (by exact load_full X6 _)) $$ H6; iintro H6
  iapply (wp_load_owns 𝒱₀ (c : Thread nD τ) none Set.univ (m := arg10)) $$ H10; iintro H10
  iapply (wp_store_to 𝒱₀ (c : Thread nD τ) none Set.univ (m := arg10) (d32P X6)
    (by exact (upd_full X10 _ _).trans (pay2_eq X6))) $$ H10; iintro H10
  iapply (wp_load_to 𝒱₀ (c : Thread nD τ) none Set.univ (m := arg3) X3 (by exact load_full X3 _)) $$ H3; iintro H3
  iapply (wp_load_owns 𝒱₀ (c : Thread nD τ) none Set.univ (m := arg9)) $$ H9; iintro H9
  iapply (wp_store_owns 𝒱₀ (c : Thread nD τ) none Set.univ (m := arg9)) $$ H9; iintro H9
  ihave L : clearInv (F := F) c arg11 0 $$ [H11]
  · unfold clearInv
    iexists H
    isplitr; · ipureintro; exact fun b hb => absurd hb (Nat.not_lt_zero _)
    iexact H11
  iapply (Scf.wp_for_bind _ _ _ k0_t1_loop.lb k0_t1_loop.ub k0_t1_loop.st (k0_t1_ok i k0_h1) ⟨⟩ _
    (fun k _ => clearInv (F := F) c arg11 k)
    (clear_step c i arg1 harg1 arg2 harg2 arg3 harg3 arg4 harg4 arg5 harg5 arg6 harg6 arg7 harg7 arg8 harg8 arg9 harg9 arg10 harg10 arg11 harg11 arg12 harg12 k0_h1)) $$ L
  iintro %u L
  unfold clearInv
  icases L with ⟨%H', %hH, H11⟩
  ihave L : linkInv (F := F) c arg1 arg11 arg12 X1 0 $$ [H1 H11 H12]
  · unfold linkInv
    isplitl [H1]; · iexact H1
    iexists H'
    iexists N
    isplitr; · ipureintro; exact linked_zero X1 H' N (fun b => hH b b.isLt)
    isplitl [H11]; · iexact H11
    iexact H12
  iapply (Scf.wp_for_bind _ _ _ k0_t2_loop.lb k0_t2_loop.ub k0_t2_loop.st (k0_t2_ok i k0_h1) ⟨⟩ _
    (fun k _ => linkInv (F := F) c arg1 arg11 arg12 X1 k)
    (link_step c i arg1 harg1 arg2 harg2 arg3 harg3 arg4 harg4 arg5 harg5 arg6 harg6 arg7 harg7 arg8 harg8 arg9 harg9 arg10 harg10 arg11 harg11 arg12 harg12 k0_h1 X1 hX)) $$ L
  iintro %u' L
  unfold linkInv
  icases L with ⟨H1, %H'', %N', %hL, H11, H12⟩
  iapply K
  isplitl [H1]; · iexact H1
  isplitl [H3]; · iexact H3
  isplitl [H4]; · iexact H4
  isplitl [H5]; · iexact H5
  isplitl [H6]; · iexact H6
  unfold ready
  isplitl [H8]; · iexact H8
  isplitl [H9]
  · iexists _
    isplitr [H9]
    swap
    · iexact H9
    · ipureintro; exact rows_store X3 X9 _
  isplitl [H10]; · iexact H10
  iexists H''
  iexists N'
  isplitr; · ipureintro; exact hL
  isplitl [H11]; · iexact H11
  iexact H12

/-- The scratch arrays before a grid point: arbitrary before the first, prepared before every other. -/
def before : sProp 𝕄 :=
  if (i 0).val = 0 then raw (F := F) c arg8 arg9 arg10 arg11 arg12
  else ready c arg8 arg9 arg10 arg11 arg12 X1 X3 X4 X5 X6

/-- The part every grid point runs, the inputs it does not read carried along. -/
theorem tail_frame (hX : IdsOk X1) :
    iprop(owns (c : Thread nD τ) arg1 fullShare X1 ∗ owns (c : Thread nD τ) arg2 fullShare X2
        ∗ owns (c : Thread nD τ) arg3 fullShare X3 ∗ owns (c : Thread nD τ) arg4 fullShare X4
        ∗ owns (c : Thread nD τ) arg5 fullShare X5 ∗ owns (c : Thread nD τ) arg6 fullShare X6
        ∗ (∃ X7 : S384x2560.Idx → F .f32, owns (c : Thread nD τ) arg7 fullShare X7)
        ∗ ready c arg8 arg9 arg10 arg11 arg12 X1 X3 X4 X5 X6)
      ⊢ wp frame (wpE (defs₀ (F := F)) 𝒱₀ (c : Thread nD τ) none) Set.univ
        (tail (F := F) i arg1 harg1 arg2 arg7 harg7 arg8 arg9 arg10 harg10 arg11 arg12 harg12)
        (fun _ => iprop(owns (c : Thread nD τ) arg1 fullShare X1 ∗ owns (c : Thread nD τ) arg2 fullShare X2
          ∗ owns (c : Thread nD τ) arg3 fullShare X3 ∗ owns (c : Thread nD τ) arg4 fullShare X4
          ∗ owns (c : Thread nD τ) arg5 fullShare X5 ∗ owns (c : Thread nD τ) arg6 fullShare X6
          ∗ owns (c : Thread nD τ) arg7 fullShare (outBlk i X1 X2 X3 X4 X5 X6)
          ∗ ready c arg8 arg9 arg10 arg11 arg12 X1 X3 X4 X5 X6)) := by
  iintro ⟨H1, H2, H3, H4, H5, H6, H7, HS⟩
  iapply (wp_wand frame (wpE (defs₀ (F := F)) 𝒱₀ (c : Thread nD τ) none) Set.univ) $$ [H1 H2 H7 HS]
  · iapply (tail_sound c i arg1 harg1 arg2 arg7 harg7 arg8 arg9 arg10 harg10 arg11 arg12 harg12 X1 X2 X3 X4 X5 X6 hX)
    isplitl [H1]; · iexact H1
    isplitl [H2]; · iexact H2
    isplitl [H7]; · iexact H7
    iexact HS
  iintro %u ⟨H1, H2, H7, HS⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HS

/-- The body of one grid point: the output block ends at `outBlk`, the inputs are unchanged, the scratch arrays are prepared. -/
theorem body_sound (hX : IdsOk X1) :
    iprop(owns (c : Thread nD τ) arg1 fullShare X1 ∗ owns (c : Thread nD τ) arg2 fullShare X2
        ∗ owns (c : Thread nD τ) arg3 fullShare X3 ∗ owns (c : Thread nD τ) arg4 fullShare X4
        ∗ owns (c : Thread nD τ) arg5 fullShare X5 ∗ owns (c : Thread nD τ) arg6 fullShare X6
        ∗ (∃ X7 : S384x2560.Idx → F .f32, owns (c : Thread nD τ) arg7 fullShare X7)
        ∗ before c i arg8 arg9 arg10 arg11 arg12 X1 X3 X4 X5 X6)
      ⊢ wp frame (wpE (defs₀ (F := F)) 𝒱₀ (c : Thread nD τ) none) Set.univ
        (cc0_tied_embedding_grad (F := F) i arg1 harg1 arg2 harg2 arg3 harg3 arg4 harg4 arg5 harg5 arg6 harg6 arg7 harg7 arg8 harg8 arg9 harg9 arg10 harg10 arg11 harg11 arg12 harg12)
        (fun _ => iprop(owns (c : Thread nD τ) arg1 fullShare X1 ∗ owns (c : Thread nD τ) arg2 fullShare X2
          ∗ owns (c : Thread nD τ) arg3 fullShare X3 ∗ owns (c : Thread nD τ) arg4 fullShare X4
          ∗ owns (c : Thread nD τ) arg5 fullShare X5 ∗ owns (c : Thread nD τ) arg6 fullShare X6
          ∗ owns (c : Thread nD τ) arg7 fullShare (outBlk i X1 X2 X3 X4 X5 X6)
          ∗ ready c arg8 arg9 arg10 arg11 arg12 X1 X3 X4 X5 X6)) := by
  by_cases h : k0_cond1 i = 1#1
  · have e : cc0_tied_embedding_grad (F := F) i arg1 harg1 arg2 harg2 arg3 harg3 arg4 harg4 arg5 harg5 arg6 harg6 arg7 harg7 arg8 harg8 arg9 harg9 arg10 harg10 arg11 harg11 arg12 harg12 = prep i arg1 harg1 arg2 harg2 arg3 harg3 arg4 harg4 arg5 harg5 arg6 harg6 arg7 harg7 arg8 harg8 arg9 harg9 arg10 harg10 arg11 harg11 arg12 harg12 h (fun _ => tail i arg1 harg1 arg2 arg7 harg7 arg8 arg9 arg10 harg10 arg11 arg12 harg12) := by
      rw [cc0_tied_embedding_grad_eq_skeleton, skel_eq]; exact dif_pos h
    have eb : before c i arg8 arg9 arg10 arg11 arg12 X1 X3 X4 X5 X6 = raw (F := F) c arg8 arg9 arg10 arg11 arg12 :=
      if_pos ((cond1_iff i).1 h)
    rw [e, eb]
    iintro ⟨H1, H2, H3, H4, H5, H6, H7, HS⟩
    iapply (prep_sound c i arg1 harg1 arg2 harg2 arg3 harg3 arg4 harg4 arg5 harg5 arg6 harg6 arg7 harg7 arg8 harg8 arg9 harg9 arg10 harg10 arg11 harg11 arg12 harg12 X1 X3 X4 X5 X6 hX h)
    isplitl [H1 H3 H4 H5 H6 HS]
    · isplitl [H1]; · iexact H1
      isplitl [H3]; · iexact H3
      isplitl [H4]; · iexact H4
      isplitl [H5]; · iexact H5
      isplitl [H6]; · iexact H6
      iexact HS
    iintro ⟨H1, H3, H4, H5, H6, HS⟩
    iapply (tail_frame c i arg1 harg1 arg2 arg3 arg4 arg5 arg6 arg7 harg7 arg8 arg9 arg10 harg10 arg11 arg12 harg12 X1 X2 X3 X4 X5 X6 hX)
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  · have e : cc0_tied_embedding_grad (F := F) i arg1 harg1 arg2 harg2 arg3 harg3 arg4 harg4 arg5 harg5 arg6 harg6 arg7 harg7 arg8 harg8 arg9 harg9 arg10 harg10 arg11 harg11 arg12 harg12 = tail i arg1 harg1 arg2 arg7 harg7 arg8 arg9 arg10 harg10 arg11 arg12 harg12 := by
      rw [cc0_tied_embedding_grad_eq_skeleton, skel_eq]; exact dif_neg h
    have eb : before c i arg8 arg9 arg10 arg11 arg12 X1 X3 X4 X5 X6 = ready c arg8 arg9 arg10 arg11 arg12 X1 X3 X4 X5 X6 :=
      if_neg (fun h0 => h ((cond1_iff i).2 h0))
    rw [e, eb]
    exact tail_frame c i arg1 harg1 arg2 arg3 arg4 arg5 arg6 arg7 harg7 arg8 arg9 arg10 harg10 arg11 arg12 harg12 X1 X2 X3 X4 X5 X6 hX

end Cert.Proof.KB
end
end
-- ==== Proof.K.KernRun.lean ====
module

public import proofs.«01_k».proof.Proof.K.KernPrep
public import Idealize.ShloMosaic.Lib.Pipeline.ValueKit
public import Idealize.ShloMosaic.Lib.Claim

/-! # `Kernel`: the run

The proof data of the pipeline (what every staging buffer holds after each grid point, what the scratch arrays hold between
grid points), the body obligation, and the run of the program: it terminates with the arguments unchanged, the semaphores
at zero, and the result array at what the write-backs leave. -/

@[expose] public section
noncomputable section

namespace Cert.Proof.KB

open Cert.Kernel Cert.Kernel.Gen Cert.Proof.K
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the four reshapes. -/
abbrev V0 (c : Dev nD) : Valuation τ sig (Elt F) := StableHlo.after hostOps0 (fun b => m (c, b))
/-- The same at a TensorCore reference. -/
abbrev V (c : Dev nD) (b : Ref sig .tc) : Buf (Elt F) ((c : Thread nD τ).loc b) := V0 m c (Proc.devRef .tc b)

/-- The reshapes allocate nothing. -/
theorem hostOps0_fresh : (hostOps0 : List (HloOp τ sig (Elt F))).Forall fun op => op.fresh = ∅ := by
  simp only [List.Forall]; repeat' constructor

/-- `main` up to the region. -/
theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer no reshape writes is as launched. -/
theorem V_of_not_written (c : Dev nD) (b : Ref sig .tc) (h0 : b ≠ main_v0) (h1 : b ≠ main_v1) (h2 : b ≠ main_v2) (h3 : b ≠ main_v3) :
    V m c b = m ((c : Thread nD τ).loc b) := by
  refine StableHlo.after_of_forall_not_mem (b := Proc.devRef .tc b) _ _ (List.forall_iff_forall_mem.mp ?_)
  simp only [hostOps0, List.Forall, StableHlo.reshape_writes, Finset.mem_singleton]
  exact ⟨StableHlo.devRef_ne_of_ne h0, StableHlo.devRef_ne_of_ne h1, StableHlo.devRef_ne_of_ne h2, StableHlo.devRef_ne_of_ne h3⟩

theorem V_main_arg0 (c : Dev nD) : V m c main_arg0 = m ((c : Thread nD τ).loc main_arg0) :=
  V_of_not_written m c main_arg0 (by decide) (by decide) (by decide) (by decide)
theorem V_main_arg1 (c : Dev nD) : V m c main_arg1 = m ((c : Thread nD τ).loc main_arg1) :=
  V_of_not_written m c main_arg1 (by decide) (by decide) (by decide) (by decide)
theorem V_main_arg2 (c : Dev nD) : V m c main_arg2 = m ((c : Thread nD τ).loc main_arg2) :=
  V_of_not_written m c main_arg2 (by decide) (by decide) (by decide) (by decide)
theorem V_main_arg3 (c : Dev nD) : V m c main_arg3 = m ((c : Thread nD τ).loc main_arg3) :=
  V_of_not_written m c main_arg3 (by decide) (by decide) (by decide) (by decide)
theorem V_main_arg4 (c : Dev nD) : V m c main_arg4 = m ((c : Thread nD τ).loc main_arg4) :=
  V_of_not_written m c main_arg4 (by decide) (by decide) (by decide) (by decide)
theorem V_main_arg5 (c : Dev nD) : V m c main_arg5 = m ((c : Thread nD τ).loc main_arg5) :=
  V_of_not_written m c main_arg5 (by decide) (by decide) (by decide) (by decide)

/-! ## The windows' blocks -/

/-- Window `w`'s block at point `t`, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The grid's one coordinate is the point. -/
theorem coord_eq : ∀ t : Fin grid0.N, (grid0.coords t 0).val = t.val := by decide +kernel

/-- A place in block 0 is its own offset. -/
theorem add_block {k n a : ℕ} (h : k = 0) : k * n + a = a := by rw [h, Nat.zero_mul, Nat.zero_add]

theorem index_0 : ∀ t : Fin grid0.N, (win0 0).index t = ![0, 0] := by decide +kernel
theorem index_2 : ∀ t : Fin grid0.N, (win0 2).index t = ![0, 0] := by decide +kernel
theorem index_3 : ∀ t : Fin grid0.N, (win0 3).index t = ![0, 0] := by decide +kernel
theorem index_4 : ∀ t : Fin grid0.N, (win0 4).index t = ![0, 0] := by decide +kernel
theorem index_5 : ∀ t : Fin grid0.N, (win0 5).index t = ![0, 0] := by decide +kernel

/-- The ids' block is the whole array. -/
theorem iblk_0 (c : Dev nD) (t : Fin (cfg0 (F := F)).N) : iblk m c 0 t = V m c main_arg4 := by
  funext x
  blk_simp [iblk]
  refine congrArg (V m c main_arg4) ?_
  blk_ext []
  · exact congrFun (index_0 t) 0
  · exact add_block (congrFun (index_0 t) 1)

/-- The scales' block is the whole array. -/
theorem iblk_2 (c : Dev nD) (t : Fin (cfg0 (F := F)).N) : iblk m c 2 t = V m c main_v1 := by
  funext x
  blk_simp [iblk]
  refine congrArg (V m c main_v1) ?_
  blk_ext []
  · exact add_block (congrFun (index_2 t) 0)
  · exact add_block (congrFun (index_2 t) 1)

/-- The hidden states' block is the whole array. -/
theorem iblk_3 (c : Dev nD) (t : Fin (cfg0 (F := F)).N) : iblk m c 3 t = V m c main_v2 := by
  funext x
  blk_simp [iblk]
  refine congrArg (V m c main_v2) ?_
  blk_ext []
  · exact add_block (congrFun (index_3 t) 0)
  · exact add_block (congrFun (index_3 t) 1)

/-- The hidden states' scales' block is the whole array. -/
theorem iblk_4 (c : Dev nD) (t : Fin (cfg0 (F := F)).N) : iblk m c 4 t = V m c main_arg3 := by
  funext x
  blk_simp [iblk]
  refine congrArg (V m c main_arg3) ?_
  blk_ext []
  · exact congrFun (index_4 t) 0
  · exact add_block (congrFun (index_4 t) 1)

/-- The embedding gradient's block is the whole array. -/
theorem iblk_5 (c : Dev nD) (t : Fin (cfg0 (F := F)).N) : iblk m c 5 t = V m c main_v3 := by
  funext x
  blk_simp [iblk]
  refine congrArg (V m c main_v3) ?_
  blk_ext []
  · exact add_block (congrFun (index_5 t) 0)
  · exact add_block (congrFun (index_5 t) 1)

/-! ## The proof data -/

/-- The output block of point `t`. -/
def oblk (c : Dev nD) (t : Fin (cfg0 (F := F)).N) : S384x2560.Idx → F .f32 :=
  outBlk (grid0.coords t) (V m c main_arg4) (iblk m c 1 t) (V m c main_v1) (V m c main_v2) (V m c main_arg3) (V m c main_v3)

/-- The scratch arrays before point `t`. -/
def scr (c : Dev nD) (t : ℕ) : sProp 𝕄 :=
  if t = 0 then raw (F := F) c (Memref.whole cc0_scratch0) (Memref.whole cc0_scratch1) (Memref.whole cc0_scratch2)
      (Memref.whole cc0_scratch3) (Memref.whole cc0_scratch4)
  else ready c (Memref.whole cc0_scratch0) (Memref.whole cc0_scratch1) (Memref.whole cc0_scratch2)
      (Memref.whole cc0_scratch3) (Memref.whole cc0_scratch4)
      (V m c main_arg4) (V m c main_v1) (V m c main_v2) (V m c main_arg3) (V m c main_v3)

/-- The proof data: the arrays as the region finds them; after each point every input's buffer at its block and the
output's at `oblk`; between points the scratch arrays at `scr` and the generator register. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oblk m c t
  Φ t := iprop(scr m c t.val ∗ ∃ r, prngReg c r)
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = iblk m c 5 t := by dsimp only [dats]; rfl
theorem after0_6 (c : Dev nD) (t : Fin (cfg0 (F := F)).N) : (dats m 0 c).after 6 t = oblk m c t := by dsimp only [dats]; rfl

/-- Each input's staging buffer holds its block at every point, fetched there or not. -/
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfg0 (F := F)).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfg0 (F := F)).N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-! ## The body obligation -/

/-- What the body is called with at point `t`. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point. -/
theorem sound_body (hids : ∀ c : Dev nD, IdsOk (m ((c : Thread nD τ).loc main_arg4))) (c : Dev nD) (t : Fin (cfg0 (F := F)).N) :
    bodyPre m c t ⊢ wp frame (wpE (defs₀ (F := F)) 𝒱₀ (c : Thread nD τ) none) Set.univ (bodyAt0 t) (fun _ => bodyPost m c t) := by
  have hX : IdsOk (V m c main_arg4) := by rw [V_main_arg4]; exact hids c
  have e0 : (dats m 0 c).Φ t.castSucc = iprop(before c (grid0.coords t) (Memref.whole cc0_scratch0) (Memref.whole cc0_scratch1)
      (Memref.whole cc0_scratch2) (Memref.whole cc0_scratch3) (Memref.whole cc0_scratch4)
      (V m c main_arg4) (V m c main_v1) (V m c main_v2) (V m c main_arg3) (V m c main_v3) ∗ ∃ r, prngReg c r) := by
    have : scr m c t.val = before c (grid0.coords t) (Memref.whole cc0_scratch0) (Memref.whole cc0_scratch1)
      (Memref.whole cc0_scratch2) (Memref.whole cc0_scratch3) (Memref.whole cc0_scratch4)
      (V m c main_arg4) (V m c main_v1) (V m c main_v2) (V m c main_arg3) (V m c main_v3) := by
      unfold scr before
      rw [coord_eq t]
    rw [← this]
    rfl
  have e1 : (dats m 0 c).Φ t.succ = iprop(ready c (Memref.whole cc0_scratch0) (Memref.whole cc0_scratch1)
      (Memref.whole cc0_scratch2) (Memref.whole cc0_scratch3) (Memref.whole cc0_scratch4)
      (V m c main_arg4) (V m c main_v1) (V m c main_v2) (V m c main_arg3) (V m c main_v3) ∗ ∃ r, prngReg c r) := by
    have : scr m c (t.val + 1) = ready c (Memref.whole cc0_scratch0) (Memref.whole cc0_scratch1)
      (Memref.whole cc0_scratch2) (Memref.whole cc0_scratch3) (Memref.whole cc0_scratch4)
      (V m c main_arg4) (V m c main_v1) (V m c main_v2) (V m c main_arg3) (V m c main_v3) := if_neg (Nat.succ_ne_zero _)
    rw [← this]
    rfl
  unfold bodyPre bodyPost bodyAt0
  simp only [before0_0, before0_1, before0_2, before0_3, before0_4, before0_5]
  rw [e0, e1, show (dats m 0 c).owesAt () t.succ = (dats m 0 c).owesAt () t.castSucc from rfl,
    after0_0, after0_1, after0_2, after0_3, after0_4, after0_5, after0_6, iblk_0, iblk_2, iblk_3, iblk_4, iblk_5]
  iintro ⟨⟨HS, HR⟩, Ho, ⟨%d0, H0⟩, ⟨%d1, H1⟩, ⟨%d2, H2⟩, ⟨%d3, H3⟩, ⟨%d4, H4⟩, ⟨%d5, H5⟩, ⟨%d6, H6⟩⟩
  iapply (wp_wand frame (wpE (defs₀ (F := F)) 𝒱₀ (c : Thread nD τ) none) Set.univ) $$ [HS H0 H1 H2 H3 H4 H5 H6]
  · iapply (body_sound c (grid0.coords t) _ _ _ _ _ _ _ _ _ _ _ _ _ _ (Memref.whole cc0_scratch0) _ (Memref.whole cc0_scratch1) _
      (Memref.whole cc0_scratch2) _ (Memref.whole cc0_scratch3) _ (Memref.whole cc0_scratch4) _
      (V m c main_arg4) (iblk m c 1 t) (V m c main_v1) (V m c main_v2) (V m c main_arg3) (V m c main_v3) hX)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexact HS
  iintro %u ⟨H0, H1, H2, H3, H4, H5, H6, HS⟩
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is the body. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point. -/
theorem body_obligation (hids : ∀ c : Dev nD, IdsOk (m ((c : Thread nD τ).loc main_arg4))) (c : Dev nD) :
    BodyObligation (dats (F := F) m 0 c) (defs₀ (F := F)) 𝒱₀ () Set.univ := fun t => by
  rw [bigSep_W0, bigSep_W0, defs₀_row]
  exact triple_restated (sound_body m hids c t) rfl .rfl fun _ => .rfl

/-! ## The run -/

/-- Before the first point the scratch arrays hold anything. -/
theorem hin (c : Dev nD) : Pipeline.ΦA spec0 c ⊢ (dats (F := F) m 0 c).Φ 0 := by
  have e : (dats (F := F) m 0 c).Φ 0 = iprop(raw (F := F) c (Memref.whole cc0_scratch0) (Memref.whole cc0_scratch1)
      (Memref.whole cc0_scratch2) (Memref.whole cc0_scratch3) (Memref.whole cc0_scratch4) ∗ ∃ r, prngReg c r) := rfl
  rw [e]
  unfold Pipeline.ΦA raw
  rw [scopedRest0_eq]
  simp only [owns_whole]
  iintro ⟨⟨H0, H1, H2, H3, H4⟩, HR⟩
  isplitr [HR]
  swap; · iexact HR
  isplitl [H0]; · iexact H0
  isplitl [H1]; · iexact H1
  isplitl [H2]; · iexact H2
  isplitl [H3]; · iexact H3
  iexact H4

/-- After the last point the scratch arrays are forgotten. -/
theorem hout (c : Dev nD) : (dats (F := F) m 0 c).Φ (Fin.last (cfg0 (F := F)).N) ⊢ Pipeline.ΦA spec0 c := by
  have e : (dats (F := F) m 0 c).Φ (Fin.last (cfg0 (F := F)).N) = iprop(ready c (Memref.whole cc0_scratch0) (Memref.whole cc0_scratch1)
      (Memref.whole cc0_scratch2) (Memref.whole cc0_scratch3) (Memref.whole cc0_scratch4)
      (V m c main_arg4) (V m c main_v1) (V m c main_v2) (V m c main_arg3) (V m c main_v3) ∗ ∃ r, prngReg c r) := by
    have h : (Fin.last (cfg0 (F := F)).N).val ≠ 0 := by
      show grid0.N ≠ 0
      rw [N_0]; decide
    have : scr m c (Fin.last (cfg0 (F := F)).N).val = ready c (Memref.whole cc0_scratch0) (Memref.whole cc0_scratch1)
      (Memref.whole cc0_scratch2) (Memref.whole cc0_scratch3) (Memref.whole cc0_scratch4)
      (V m c main_arg4) (V m c main_v1) (V m c main_v2) (V m c main_arg3) (V m c main_v3) := if_neg h
    rw [← this]
    rfl
  rw [e]
  unfold Pipeline.ΦA ready
  rw [scopedRest0_eq]
  simp only [owns_whole]
  iintro ⟨⟨H0, ⟨%X9, -, H1⟩, H2, %H, %N, -, H3, H4⟩, HR⟩
  isplitr [HR]
  swap; · iexact HR
  isplitl [H0]; · iexists _; iexact H0
  isplitl [H1]; · iexists _; iexact H1
  isplitl [H2]; · iexists _; iexact H2
  isplitl [H3]; · iexists _; iexact H3
  iexists _; iexact H4

set_option backward.isDefEq.respectTransparency.types false in
set_option maxHeartbeats 800000 in
/-- The run: every array of the pipeline ends at what the write-backs leave, every other buffer as the region found it,
every semaphore at zero. -/
theorem run_main_quiescent (hids : ∀ c : Dev nD, IdsOk (m ((c : Thread nD τ).loc main_arg4))) :
    θ_run defs (onTc (τ := τ) (main (F := F))) (s₀ m ρ)
      (fun r => Pipeline.FramePost cfgs (dats m) 0 (V m) r ∧ r.2.sem = fun _ => 0) :=
  Pipeline.θ_run_frame_track cfgs (dats m) (0 : Fin 1) launch0 defs₀ 𝒱₀ m ρ main
    (hbody := fun c => (body_obligation m hids c).loose) (hshare := fun c => (dats m 0 c).share_full fun _ => rfl)
    (howed := fun _ _ => rfl) (V := V m) (hmain := hmain m) (hA := A_eq m) (hin := hin m) (hout := hout m)
    (Q' := fun r => Pipeline.FramePost cfgs (dats m) 0 (V m) r ∧ r.2.sem = fun _ => 0) (hQ' := fun _ h => h)

/-- What the run leaves: the result array at what the write-backs leave, the arguments unchanged, the semaphores at zero. -/
theorem run (hids : ∀ c : Dev nD, IdsOk (m ((c : Thread nD τ).loc main_arg4))) :
    θ_run defs (onTc (τ := τ) (main (F := F))) ⟨m, fun _ => 0, ρ⟩ (fun r => (∀ c : Dev nD,
      r.2.mem ((c.tc : Thread nD τ).loc main_v4) = (dats m 0 c).arrAt 6 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 6,
      ((h.1 c).2 main_arg0 (Pipeline.mem_restRefs_of main_arg0 (by decide) (show ∀ w : Fin 7, (spec0 w).arr.view.ref ≠ main_arg0 by decide))).trans (V_main_arg0 m c),
      ((h.1 c).2 main_arg1 (Pipeline.mem_restRefs_of main_arg1 (by decide) (show ∀ w : Fin 7, (spec0 w).arr.view.ref ≠ main_arg1 by decide))).trans (V_main_arg1 m c),
      ((h.1 c).2 main_arg2 (Pipeline.mem_restRefs_of main_arg2 (by decide) (show ∀ w : Fin 7, (spec0 w).arr.view.ref ≠ main_arg2 by decide))).trans (V_main_arg2 m c),
      ((h.1 c).1 4).trans (((dats m 0 c).arrAt_in 4 rfl _).trans ((A_eq m c 4).trans (V_main_arg3 m c))),
      ((h.1 c).1 0).trans (((dats m 0 c).arrAt_in 0 rfl _).trans ((A_eq m c 0).trans (V_main_arg4 m c))),
      ((h.1 c).2 main_arg5 (Pipeline.mem_restRefs_of main_arg5 (by decide) (show ∀ w : Fin 7, (spec0 w).arr.view.ref ≠ main_arg5 by decide))).trans (V_main_arg5 m c)⟩, h.2⟩)
    (run_main_quiescent m ρ hids)

end Cert.Proof.KB
end
end
-- ==== Proof.K.Spec.lean ====
module

public import Idealize.ShloMosaic.Lib.Pointwise

/-! # The weight gradient over the extended reals, as one formula

Both programs are shown to leave this array: entry `(v, d)` is the sum over the tokens of the scaled logit gradient times
the scaled hidden state, plus the sum of the embedding gradients of the tokens whose id is `v`. -/

@[expose] public section
noncomputable section

namespace Cert.Proof.K

open Idealize.ShloMosaic

/-- Column `v`'s scale chunk. -/
abbrev chunk (v : Fin 50304) : Fin 393 := ⟨v.val / 128, by omega⟩

/-- The scaled logit gradients times the scaled hidden states, at `(v, d)`. -/
def headV (dl : (⟨3, ![1, 256, 50304]⟩ : Shape).Idx → EReal) (dls : (⟨3, ![1, 256, 393]⟩ : Shape).Idx → EReal)
    (h : (⟨3, ![1, 256, 2560]⟩ : Shape).Idx → EReal) (hs : (⟨2, ![1, 256]⟩ : Shape).Idx → EReal) (v : Fin 50304) (d : Fin 2560) : EReal :=
  ∑ t : Fin 256, (dl (ix3 0 t v) * dls (ix3 0 t (chunk v))) * (h (ix3 0 t d) * hs (ix2 0 t))

/-- The embedding gradients of the tokens of id `v`, at column `d`. -/
def embV (ids : (⟨2, ![1, 256]⟩ : Shape).Idx → BitVec 32) (de : (⟨3, ![1, 256, 2560]⟩ : Shape).Idx → EReal) (v : Fin 50304) (d : Fin 2560) : EReal :=
  ∑ t : Fin 256, if (ids (ix2 0 t)).toNat = v.val then de (ix3 0 t d) else 0

/-- The weight gradient. -/
def gradV (dl : (⟨3, ![1, 256, 50304]⟩ : Shape).Idx → EReal) (dls : (⟨3, ![1, 256, 393]⟩ : Shape).Idx → EReal)
    (h : (⟨3, ![1, 256, 2560]⟩ : Shape).Idx → EReal) (hs : (⟨2, ![1, 256]⟩ : Shape).Idx → EReal)
    (ids : (⟨2, ![1, 256]⟩ : Shape).Idx → BitVec 32) (de : (⟨3, ![1, 256, 2560]⟩ : Shape).Idx → EReal) :
    (⟨2, ![50304, 2560]⟩ : Shape).Idx → EReal :=
  fun y => headV dl dls h hs (y 0) (y 1) + embV ids de (y 0) (y 1)

end Cert.Proof.K
end
end
-- ==== Proof.K.ValueKernel.lean ====
module

public import proofs.«01_k».proof.Proof.K.IdealRun
public import proofs.«01_k».proof.Proof.K.Spec
public import Idealize.ShloMosaic.Lib.StableHlo.ReadAt
public import Idealize.ShloMosaic.Lib.Pointwise

/-! # `KernelIdeal`: the result array over the extended reals

The block product at an index (`pay4_apply`), the walk over a block's tokens as a sum (`rowsAdd_apply`, `sum_gain`), one
output block (`outBlk_apply`), and the whole array from its blocks (`arr_eq`). -/

@[expose] public section
noncomputable section

namespace Cert.Proof.KI

open Cert.KernelIdeal Cert.KernelIdeal.Gen Cert.Proof.K
open Idealize.ShloMosaic Idealize.ShloMosaic.TcCoe Idealize.ShloMosaic.Tactic

/-- The block product at an index: over the tokens, the logit gradient times the scale of the row's group of 128, times the
second factor. -/
theorem pay4_apply (v3 : Vec Ideal S256x384 .fp8e5m2) (v10 v18 v26 : Vec Ideal S1x256 .f32) (v32 : Vec Ideal S256x2560 .bf16)
    (r : Fin 384) (d : Fin 2560) :
    k0_pay4 v3 v10 v18 v26 v32 (ix2 r d) = ∑ k : Fin 256, ((v3 (ix2 k r) : EReal)
      * (if r.val < 128 then v10 (ix2 (0 : Fin 1) k) else if r.val < 256 then v18 (ix2 (0 : Fin 1) k) else v26 (ix2 (0 : Fin 1) k) : EReal)) * v32 (ix2 k d) := by
  pointwise [k0_pay4]
  refine Finset.sum_congr rfl fun k _ => ?_
  by_cases h1 : r.val < 128
  · rw [dif_pos h1, if_pos h1]
  · rw [dif_neg h1, if_neg h1]
    by_cases h2 : r.val < 256
    · rw [dif_pos (by omega), if_pos h2]
      congr 4
      exact Fin.ext (by show 128 + (r.val - 128) = r.val; omega)
    · rw [dif_neg (by omega), if_neg h2]
      congr 4
      exact Fin.ext (by show 256 + (r.val - 128 - 128) = r.val; omega)

/-- What token `t` adds to entry `(v, d)`. -/
def gain (X : S1x256.Idx → BitVec 32) (D : S256x2560.Idx → EReal) (v : ℕ) (d : Fin 2560) (t : ℕ) : EReal :=
  if h : t < 256 then (if (idn X t).toNat = v then D (ix2 ⟨t, h⟩ d) else 0) else 0

/-- The walk over the tokens of block `i` among the last `k`: row `r` gains what every one of the last `k` tokens adds to
row `384 i + r` of the whole array. -/
theorem rowsAdd_apply (X1 : S1x256.Idx → BitVec 32) (i : ℕ) (D : S256x2560.Idx → Ideal .f32) (r : Fin 384) (d : Fin 2560) :
    ∀ (k : ℕ) (_ : k ≤ 256) (X : S384x2560.Idx → Ideal .f32),
    rowsAdd (F := Ideal) X1 i D (lst X1 i k) X (ix2 r d) = ((X (ix2 r d) : EReal) + ∑ j ∈ Finset.range k, gain X1 D (384 * i + r.val) d (255 - j) : EReal)
  | 0, _, X => by
    rw [Finset.sum_range_zero, add_zero]; rfl
  | k + 1, hk, X => by
    have hr := r.isLt
    rw [Finset.sum_range_succ]
    unfold lst
    split
    · rename_i hb
      show rowsAdd (F := Ideal) X1 i D (lst X1 i k) (rowAdd D X ((idn X1 (255 - k)).toNat - 384 * i) (255 - k)) (ix2 r d) = _
      rw [rowsAdd_apply X1 i D r d k (by omega)]
      have hg : rowAdd (F := Ideal) D X ((idn X1 (255 - k)).toNat - 384 * i) (255 - k) (ix2 r d)
          = ((X (ix2 r d) : EReal) + gain X1 D (384 * i + r.val) d (255 - k) : EReal) := by
        unfold rowAdd gain
        rw [dif_pos (show 255 - k < 256 by omega)]
        by_cases h : (idn X1 (255 - k)).toNat = 384 * i + r.val
        · rw [if_pos h, dif_pos ⟨show r.val = _ by omega, by omega⟩, ix2_eq_valueIdx ⟨255 - k, _⟩ d]
          rfl
        · rw [if_neg h, add_zero, dif_neg fun q => h ?_]
          have q1 : r.val = (idn X1 (255 - k)).toNat - 384 * i := q.1
          omega
      rw [hg, add_assoc, add_comm (gain _ _ _ _ _)]
    · rename_i hb
      have hz : gain X1 D (384 * i + r.val) d (255 - k) = 0 := by
        unfold gain
        rw [dif_pos (show 255 - k < 256 by omega), if_neg fun q => hb (by omega)]
      rw [hz, add_zero]
      exact rowsAdd_apply X1 i D r d k (by omega) X

/-- All the tokens: the sum over the tokens of id `v`. -/
theorem sum_gain (X : S1x256.Idx → BitVec 32) (D : S256x2560.Idx → EReal) (v : ℕ) (d : Fin 2560) :
    ∑ j ∈ Finset.range 256, gain X D v d (255 - j) = ∑ t : Fin 256, if (X (ix2 0 t)).toNat = v then D (ix2 t d) else 0 := by
  rw [Finset.sum_range_reflect (gain X D v d) 256, Finset.sum_range]
  refine Finset.sum_congr rfl fun t _ => ?_
  unfold gain idn
  rw [dif_pos t.isLt, dif_pos t.isLt, ix2_eq_valueIdx]
  rfl

variable (m : (ℓ : Loc nD τ sig) → Buf (Elt Ideal) ℓ)

/-! The four reshapes drop the leading axis of length 1. -/

/-- The logit gradients as the region finds them. -/
theorem V_main_v0 (c : Dev nD) (t : Fin 256) (v : Fin 50304) :
    V m c main_v0 (ix2 t v) = m ((c : Thread nD τ).loc main_arg0) (ix3 0 t v) := by
  unfold V V0
  after_reads_at

/-- The logit gradients' scales as the region finds them. -/
theorem V_main_v1 (c : Dev nD) (t : Fin 256) (v : Fin 393) :
    V m c main_v1 (ix2 t v) = m ((c : Thread nD τ).loc main_arg1) (ix3 0 t v) := by
  unfold V V0
  after_reads_at

/-- The hidden states as the region finds them. -/
theorem V_main_v2 (c : Dev nD) (t : Fin 256) (d : Fin 2560) :
    V m c main_v2 (ix2 t d) = m ((c : Thread nD τ).loc main_arg2) (ix3 0 t d) := by
  unfold V V0
  after_reads_at

/-- The embedding gradients as the region finds them. -/
theorem V_main_v3 (c : Dev nD) (t : Fin 256) (d : Fin 2560) :
    V m c main_v3 (ix2 t d) = m ((c : Thread nD τ).loc main_arg5) (ix3 0 t d) := by
  unfold V V0
  after_reads_at

/-- Which block of the logit gradients point `t` takes: columns `384 t` on. -/
theorem index_1 : ∀ t : Fin grid0.N, (win0 1).index t = ![0, t.val] := by decide +kernel
/-- Which block of the result point `t` writes: rows `384 t` on. -/
theorem index_6 : ∀ t : Fin grid0.N, (win0 6).index t = ![t.val, 0] := by decide +kernel

/-- Point `t`'s block of the logit gradients is the columns from `384 t` on. -/
theorem iblk_1_apply (c : Dev nD) (t : Fin (cfg0 (F := Ideal)).N) (k : Fin 256) (r : Fin 384) (v : Fin 50304) (hv : v.val = 384 * t.val + r.val) :
    iblk m c 1 t (ix2 k r) = V m c main_v0 (ix2 k v) := by
  blk_simp [iblk]
  refine congrArg (V m c main_v0) ?_
  blk_ext []
  · exact add_block (congrFun (index_1 t) 0)
  · have e : (win0 1).index t 1 = t.val := congrFun (index_1 t) 1
    have e' : win0_1.index t 1 = t.val := e
    rw [e', hv]
    omega

/-- The kernel's weight gradient: the formula at the launched arguments. -/
def grad (c : Dev nD) : (⟨2, ![50304, 2560]⟩ : Shape).Idx → EReal :=
  gradV (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The output block of point `i` over the blocks' elements is rows `384 i` to `384 i + 383` of the weight gradient. -/
theorem outBlk_apply (i : grid0.Coords) (ids : S1x256.Idx → BitVec 32) (dl : S256x384.Idx → Ideal .fp8e5m2)
    (dls : S256x393.Idx → Ideal .f32) (h : S256x2560.Idx → Ideal .fp8e4m3) (hs : S1x256.Idx → Ideal .f32) (de : S256x2560.Idx → Ideal .bf16)
    (DL : S1x256x50304.Idx → EReal) (DLS : S1x256x393.Idx → EReal) (H DE : S1x256x2560.Idx → EReal)
    (r : Fin 384) (d : Fin 2560) (v : Fin 50304) (hv : v.val = 384 * (i 0).val + r.val)
    (hdl : ∀ k : Fin 256, dl (ix2 k r) = DL (ix3 0 k v)) (hdls : ∀ (k : Fin 256) (j : Fin 393), dls (ix2 k j) = DLS (ix3 0 k j))
    (hh : ∀ k : Fin 256, h (ix2 k d) = H (ix3 0 k d)) (hde : ∀ k : Fin 256, de (ix2 k d) = DE (ix3 0 k d)) :
    outBlk (F := Ideal) i ids dl dls h hs de (ix2 r d) = gradV DL DLS H hs ids DE (ix2 v d) := by
  have hi : (i 0).val < 131 := (i 0).isLt
  have hr := r.isLt
  unfold outBlk
  rw [rowsAdd_apply _ _ _ _ _ 256 (le_refl _), sum_gain, pay4_apply]
  show _ + _ = headV DL DLS H hs v d + embV ids DE v d
  unfold headV embV
  have key : ∀ (k : Fin 256) (j : ℕ) (hj : j < 393), j = v.val / 128 → scRow (F := Ideal) dls j hj (ix2 0 k) = DLS (ix3 0 k (chunk v)) := by
    rintro k j hj rfl
    rw [← hdls]
    unfold scRow
    rw [ix2_eq_valueIdx k]; rfl
  congr 1
  · refine Finset.sum_congr rfl fun k _ => ?_
    have hhh : hhP (F := Ideal) h hs (ix2 k d) = (H (ix3 0 k d) * hs (ix2 0 k) : EReal) := by
      rw [← hh]
      unfold hhP
      pointwise
      rw [ix2_eq_valueIdx 0 k]
    rw [hhh, hdl]
    refine congrArg (fun z : EReal => DL (ix3 0 k v) * z * _) ?_
    split
    · exact key k _ _ (by omega)
    · split
      · exact key k _ _ (by omega)
      · exact key k _ _ (by omega)
  · refine Finset.sum_congr rfl fun k _ => ?_
    rw [← hv, ← hde]
    rfl

/-- After the run the result array is the weight gradient. -/
theorem arr_eq (c : Dev nD) : (dats m 0 c).arrAt 6 (cfg0 (F := Ideal)).N = grad m c := by
  refine (dats m 0 c).arrAt_eq_of_covers 6 (grad m c) (by decide +kernel) fun t hf y => ?_
  blk_simp
  rw [after0_6]
  have ht : t.val < 131 := t.isLt
  have hy0 : (y 0).val < 384 := (y 0).isLt
  have hc : (grid0.coords t 0).val = t.val := coord_eq t
  have hy : ∃ (r : Fin 384) (d : Fin 2560), y = ix2 r d := ⟨y 0, y 1, eq_ix2 y⟩
  obtain ⟨r, d, rfl⟩ := hy
  have hr := r.isLt
  have e := outBlk_apply (grid0.coords t) (V m c main_arg4) (iblk m c 1 t) (V m c main_v1) (V m c main_v2) (V m c main_arg3) (V m c main_v3)
    (m ((c : Thread nD τ).loc main_arg0)) (m ((c : Thread nD τ).loc main_arg1)) (m ((c : Thread nD τ).loc main_arg2)) (m ((c : Thread nD τ).loc main_arg5))
    r d ⟨384 * t.val + r.val, by omega⟩ (by rw [hc])
    (fun k => (iblk_1_apply m c t k r _ rfl).trans (V_main_v0 m c k _)) (fun k j => V_main_v1 m c k j)
    (fun k => V_main_v2 m c k d) (fun k => V_main_v3 m c k d)
  rw [V_main_arg3, V_main_arg4] at e
  refine Eq.trans ?_ (e.trans (congrArg (grad m c) ?_))
  · unfold oblk
    rw [V_main_arg3, V_main_arg4]
  · blk_ext []
    · have q : win0_6.index t 0 = t.val := congrFun (index_6 t) 0
      rw [q]
      omega
    · exact (add_block (congrFun (index_6 t) 1)).symm

end Cert.Proof.KI
end
end
-- ==== Proof.K.ValueRef.lean ====
module

public import proofs.«01_k».proof.Proof.Gen.ReferenceIdeal.Frame
public import proofs.«01_k».proof.Proof.K.Spec
public import Idealize.ShloMosaic.Lib.Pointwise
public import Idealize.ShloMosaic.Lib.Routing.OpsPair
public import Idealize.ShloMosaic.Lib.StableHlo.ReadAt
public import Idealize.ShloMosaic.Lib.Pipeline.ValueKit

/-! # `ReferenceIdeal`: the result array over the extended reals

The scatter-add at an index (`scatterAdd_apply`), the host lines as a function of what they find (`tail_eq`), what the
region leaves (`arr_2`, `arr_3`), and the run (`run`). -/

@[expose] public section
noncomputable section

namespace Cert.Proof.RI

open Cert.ReferenceIdeal Cert.ReferenceIdeal.Gen Cert.Proof.K
open Idealize.ShloMosaic Idealize.ShloMosaic.TcCoe Idealize.ShloMosaic.Tactic

/-! ## Where a row of updates lands -/

/-- Update `(t, e)` starts at the row its token's word names, read signed. -/
theorem start_row (idx : IVec S256x1 32) (t : Fin 256) (e : Fin 2560) :
    ScatterDims.start scatter_S50304x2560_S256x1_S256x2560_1_0_0_1 (ix2 t e) idx 0 = (idx (ix2 t 0)).toInt := by
  show (idx (ScatterDims.siIdx scatter_S50304x2560_S256x1_S256x2560_1_0_0_1 (ix2 t e) _)).toInt = _
  refine congrArg (fun z => (idx z).toInt) (funext fun b => ?_)
  match b with
  | ⟨0, _⟩ => rfl
  | ⟨1, _⟩ => rfl

/-- On the column axis it starts at column 0. -/
theorem start_col (idx : IVec S256x1 32) (t : Fin 256) (e : Fin 2560) : ScatterDims.start scatter_S50304x2560_S256x1_S256x2560_1_0_0_1 (ix2 t e) idx 1 = 0 := rfl
/-- Its window is one row high … -/
theorem window_row (t : Fin 256) (e : Fin 2560) : ScatterDims.window scatter_S50304x2560_S256x1_S256x2560_1_0_0_1 (ix2 t e) 0 = 0 := rfl
/-- … and its place in the row is `e`. -/
theorem window_col (t : Fin 256) (e : Fin 2560) : ScatterDims.window scatter_S50304x2560_S256x1_S256x2560_1_0_0_1 (ix2 t e) 1 = e.val := rfl

/-- Update `(t, e)` lands at `(v, d)` exactly when token `t`'s word is `v` and the columns agree. -/
theorem lands (idx : IVec S256x1 32) (t : Fin 256) (e : Fin 2560) (v : Fin 50304) (d : Fin 2560) :
    ScatterDims.resultIdx? scatter_S50304x2560_S256x1_S256x2560_1_0_0_1 (ix2 t e) idx = some (ix2 v d) ↔ (idx (ix2 t 0)).toInt = (v.val : Int) ∧ e = d := by
  rw [Routing.resultIdx?_eq_some]
  constructor
  · intro h
    have h0 := h 0
    have h1 := h 1
    rw [start_row, window_row] at h0
    rw [start_col, window_col] at h1
    have q0 : (idx (ix2 t 0)).toInt + ((0 : ℕ) : Int) = (v.val : Int) := h0
    have q1 : (0 : Int) + (e.val : Int) = (d.val : Int) := h1
    exact ⟨by omega, Fin.ext (by omega)⟩
  · rintro ⟨h, rfl⟩ a
    match a with
    | ⟨0, _⟩ =>
      show ScatterDims.start scatter_S50304x2560_S256x1_S256x2560_1_0_0_1 (ix2 t e) idx 0 + ((ScatterDims.window scatter_S50304x2560_S256x1_S256x2560_1_0_0_1 (ix2 t e) 0 : ℕ) : Int) = (v.val : Int)
      rw [start_row, window_row, h]
      omega
    | ⟨1, _⟩ =>
      show ScatterDims.start scatter_S50304x2560_S256x1_S256x2560_1_0_0_1 (ix2 t e) idx 1 + ((ScatterDims.window scatter_S50304x2560_S256x1_S256x2560_1_0_0_1 (ix2 t e) 1 : ℕ) : Int) = (e.val : Int)
      rw [start_col, window_col]
      omega

/-- The scatter-add at `(v, d)`: the operand there plus column `d` of the updates of the tokens whose word is `v`. -/
theorem scatterAdd_apply (x : FVec Ideal S50304x2560 .f32) (idx : IVec S256x1 32) (u : FVec Ideal S256x2560 .f32) (v : Fin 50304) (d : Fin 2560) :
    Host.scatterAdd scatter_S50304x2560_S256x1_S256x2560_1_0_0_1 x idx u (ix2 v d)
      = (x (ix2 v d) + ∑ t : Fin 256, if (idx (ix2 t 0)).toInt = (v.val : Int) then u (ix2 t d) else 0 : EReal) := by
  show x (ix2 v d) + ∑ j ∈ Finset.univ.filter (fun j => ScatterDims.resultIdx? scatter_S50304x2560_S256x1_S256x2560_1_0_0_1 j idx = some (ix2 v d)), u j = _
  congr 1
  rw [Finset.sum_filter, sum_idx2]
  refine Finset.sum_congr rfl fun t _ => ?_
  simp only [lands]
  by_cases h : (idx (ix2 t 0)).toInt = (v.val : Int)
  · simp [h]
  · simp [h]

/-- A scatter-add of the embedding gradients into the product is the weight gradient. -/
theorem scatter_grad (x : FVec Ideal S50304x2560 .f32) (idx : IVec S256x1 32) (u : FVec Ideal S256x2560 .f32)
    (dl : S1x256x50304.Idx → EReal) (dls : S1x256x393.Idx → EReal) (h : S1x256x2560.Idx → EReal) (hs : S1x256.Idx → EReal)
    (ids : S1x256.Idx → BitVec 32) (de : S1x256x2560.Idx → EReal) (hids : ∀ y, (ids y).toNat < 50304)
    (hx : ∀ v d, x (ix2 v d) = headV dl dls h hs v d) (hidx : ∀ t : Fin 256, idx (ix2 t 0) = ids (ix2 0 t))
    (hu : ∀ (t : Fin 256) (d : Fin 2560), u (ix2 t d) = de (ix3 0 t d)) :
    Host.scatterAdd scatter_S50304x2560_S256x1_S256x2560_1_0_0_1 x idx u = gradV dl dls h hs ids de := by
  funext y
  obtain ⟨v, d, rfl⟩ : ∃ (v : Fin 50304) (d : Fin 2560), y = ix2 v d := ⟨y 0, y 1, eq_ix2 y⟩
  rw [scatterAdd_apply, hx]
  show _ + _ = headV dl dls h hs v d + embV ids de v d
  congr 1
  unfold embV
  refine Finset.sum_congr rfl fun t _ => ?_
  have h' := hids (ix2 0 t)
  rw [hidx, hu, BitVec.toInt_eq_toNat_of_lt (by omega)]
  exact if_congr Int.ofNat_inj rfl rfl

/-! ## The host lines after the region -/

variable (W : Valuation τ sig (Elt Ideal))

/-- The product of the scaled logit gradients and hidden states. -/
theorem read_v11 (v : Fin 50304) (d : Fin 2560) :
    StableHlo.after hostOps1 W (Proc.devRef .tc main_v11) (ix2 v d)
      = headV (W (Proc.devRef .tc main_v0_0)) (W (Proc.devRef .tc main_arg1)) (W (Proc.devRef .tc main_v0_1)) (W (Proc.devRef .tc main_arg3)) v d := by
  after_reads_at
  unfold headV
  rw [Fin.sum_univ_one]
  refine Finset.sum_congr rfl fun t _ => ?_
  have e : (⟨v.val / 128 * 128 + v.val % 128, by omega⟩ : Fin 50304) = v := Fin.ext (by show v.val / 128 * 128 + v.val % 128 = v.val; omega)
  rw [e]

/-- A word that is not negative is scattered to as it is. -/
theorem read_v20 (t : Fin 256) (h : BitVec.toNat (w := 32) (W (Proc.devRef .tc main_arg4) (ix2 0 t)) < 50304) :
    StableHlo.after hostOps1 W (Proc.devRef .tc main_v20) (ix2 t 0) = W (Proc.devRef .tc main_arg4) (ix2 0 t) := by
  after_reads_at
  exact Routing.wrap_of_lt _ _ (by omega)

/-- The updates are the embedding gradients. -/
theorem read_v14 (t : Fin 256) (d : Fin 2560) :
    StableHlo.after hostOps1 W (Proc.devRef .tc main_v14) (ix2 t d) = W (Proc.devRef .tc main_arg5) (ix3 0 t d) := by
  after_reads_at

/-- The result is the scatter-add. -/
theorem read_v21 :
    StableHlo.after hostOps1 W (Proc.devRef .tc main_v21) = Host.scatterAdd (F := Ideal) (φ := .f32) scatter_S50304x2560_S256x1_S256x2560_1_0_0_1 (StableHlo.after hostOps1 W (Proc.devRef .tc main_v11))
      (StableHlo.after hostOps1 W (Proc.devRef .tc main_v20)) (StableHlo.after hostOps1 W (Proc.devRef .tc main_v14)) := by
  after_reads_simp

/-- The result after the host lines is the weight gradient of what they find. -/
theorem tail_eq (ids : S1x256.Idx → BitVec 32) (hW : W (Proc.devRef .tc main_arg4) = ids) (h : ∀ y, (ids y).toNat < 50304) :
    StableHlo.after hostOps1 W (Proc.devRef .tc main_v21)
      = gradV (W (Proc.devRef .tc main_v0_0)) (W (Proc.devRef .tc main_arg1)) (W (Proc.devRef .tc main_v0_1)) (W (Proc.devRef .tc main_arg3))
          ids (W (Proc.devRef .tc main_arg5)) := by
  exact (read_v21 W).trans (scatter_grad _ _ _ _ _ _ _ ids _ h (read_v11 W)
    (fun t => (read_v20 W t (by rw [hW]; exact h _)).trans (congrFun hW _)) (read_v14 W))

/-! ## The arrays the region leaves -/

variable (m : (ℓ : Loc nD τ sig) → Buf (Elt Ideal) ℓ)

/-- Equal block numbers, equal places. -/
theorem mul_add_congr {a b n k : ℕ} (h : a = b) : a * n + k = b * n + k := by rw [h]

/-! Every window's one block is its whole array. -/

theorem index_0 : ∀ (t : Fin grid0.N) (a : Fin 3), (win0 0).index t a = 0 := by decide +kernel
theorem index_1 : ∀ (t : Fin grid0.N) (a : Fin 3), (win0 1).index t a = 0 := by decide +kernel
theorem index_2 : ∀ (t : Fin grid0.N) (a : Fin 3), (win0 2).index t a = 0 := by decide +kernel
theorem index_3 : ∀ (t : Fin grid0.N) (a : Fin 3), (win0 3).index t a = 0 := by decide +kernel

/-- The region's first result is the logit gradients. -/
theorem arr_2 (c : Dev nD) : (dats m 0 c).arrAt 2 cfg0.N = (m ((c : Thread nD τ).loc main_arg0) : S1x256x50304.Idx → EReal) := by
  refine (dats m 0 c).arrAt_eq_of_covers 2 _ (by decide +kernel) fun t hf y => ?_
  blk_simp
  rw [after0_2]
  frame_out
  unfold k0_pay1
  show iblk m c 0 t y = _
  blk_simp [iblk]
  have q : ∀ a, (win0 0).index t a = 0 := index_0 t
  have q' : ∀ a, (win0 2).index t a = 0 := index_2 t
  rw [V_main_arg0]
  refine congrArg (m ((c : Thread nD τ).loc main_arg0)) ?_
  blk_ext []
  · exact (q 0).trans (q' 0).symm
  · exact mul_add_congr ((q 1).trans (q' 1).symm)
  · exact mul_add_congr ((q 2).trans (q' 2).symm)

/-- The region's second result is the hidden states. -/
theorem arr_3 (c : Dev nD) : (dats m 0 c).arrAt 3 cfg0.N = (m ((c : Thread nD τ).loc main_arg2) : S1x256x2560.Idx → EReal) := by
  refine (dats m 0 c).arrAt_eq_of_covers 3 _ (by decide +kernel) fun t hf y => ?_
  blk_simp
  rw [after0_3]
  frame_out
  unfold k0_pay2
  show iblk m c 1 t y = _
  blk_simp [iblk]
  have q : ∀ a, (win0 1).index t a = 0 := index_1 t
  have q' : ∀ a, (win0 3).index t a = 0 := index_3 t
  rw [V_main_arg2]
  refine congrArg (m ((c : Thread nD τ).loc main_arg2)) ?_
  blk_ext []
  · exact (q 0).trans (q' 0).symm
  · exact mul_add_congr ((q 1).trans (q' 1).symm)
  · exact mul_add_congr ((q 2).trans (q' 2).symm)

/-! ## The run -/

/-- The reference's weight gradient: the formula at the launched arguments. -/
def grad (c : Dev nD) : (⟨2, ![50304, 2560]⟩ : Shape).Idx → EReal :=
  gradV (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Core `c`'s buffers when the region is left. -/
abbrev W1 (c : Dev nD) : Valuation τ sig (Elt Ideal) :=
  Pipeline.withArrays (cfgs 0).spec c (V0 m c) fun w => (dats m 0 c).arrAt w (cfgs 0).N

/-- The windows' arrays are distinct. -/
theorem arr_inj : Function.Injective (Pipeline.arrRef spec0) := by decide

/-! What the host lines find: the region's two results and the arguments. -/

theorem W1_v0_0 (c : Dev nD) : W1 m c (Proc.devRef .tc main_v0_0) = (m ((c : Thread nD τ).loc main_arg0) : S1x256x50304.Idx → EReal) :=
  (Pipeline.withArrays_arr spec0 arr_inj c (V0 m c) (fun w => (dats m 0 c).arrAt w (cfgs 0).N) 2).trans (arr_2 m c)
theorem W1_v0_1 (c : Dev nD) : W1 m c (Proc.devRef .tc main_v0_1) = (m ((c : Thread nD τ).loc main_arg2) : S1x256x2560.Idx → EReal) :=
  (Pipeline.withArrays_arr spec0 arr_inj c (V0 m c) (fun w => (dats m 0 c).arrAt w (cfgs 0).N) 3).trans (arr_3 m c)
theorem W1_arg1 (c : Dev nD) : W1 m c (Proc.devRef .tc main_arg1) = m ((c : Thread nD τ).loc main_arg1) :=
  (Pipeline.withArrays_of_ne spec0 c (V0 m c) _ main_arg1 (by decide)).trans (V_main_arg1 m c)
theorem W1_arg3 (c : Dev nD) : W1 m c (Proc.devRef .tc main_arg3) = m ((c : Thread nD τ).loc main_arg3) :=
  (Pipeline.withArrays_of_ne spec0 c (V0 m c) _ main_arg3 (by decide)).trans (V_main_arg3 m c)
theorem W1_arg4 (c : Dev nD) : W1 m c (Proc.devRef .tc main_arg4) = m ((c : Thread nD τ).loc main_arg4) :=
  (Pipeline.withArrays_of_ne spec0 c (V0 m c) _ main_arg4 (by decide)).trans (V_main_arg4 m c)
theorem W1_arg5 (c : Dev nD) : W1 m c (Proc.devRef .tc main_arg5) = m ((c : Thread nD τ).loc main_arg5) :=
  (Pipeline.withArrays_of_ne spec0 c (V0 m c) _ main_arg5 (by decide)).trans (V_main_arg5 m c)

/-- What the host lines leave in the result array. -/
theorem out_eq (c : Dev nD) (h : ∀ y : S1x256.Idx, BitVec.toNat (w := 32) (m ((c : Thread nD τ).loc main_arg4) y) < 50304) :
    Pipeline.afterTail₀ cfgs (dats m) 0 (V0 m) [hostOps1] c main_v21 = grad m c := by
  have e := tail_eq (W1 m c) (m ((c : Thread nD τ).loc main_arg4)) (W1_arg4 m c) h
  rw [W1_v0_0, W1_v0_1, W1_arg1, W1_arg3, W1_arg5] at e
  exact e

/-- The run: the result array at the weight gradient, the arguments unchanged. -/
theorem run (ρ : Dev nD → PrngReg)
    (h : ∀ (c : Dev nD) (y : S1x256.Idx), BitVec.toNat (w := 32) (m ((c : Thread nD τ).loc main_arg4) y) < 50304) :
    θ_run defs (onTc (τ := τ) (main (F := Ideal))) ⟨m, fun _ => 0, ρ⟩ (fun r => ∀ c : Dev nD,
      r.2.mem ((c.tc : Thread nD τ).loc main_v21) = grad m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ hr c => ⟨((hr.1 c).2 main_v21 (Pipeline.mem_restRefs_of main_v21 (by decide) (by decide))).trans (out_eq m c (h c)),
    hr.2 c⟩) (θ_run_and (run_main m ρ) (unchanged m ρ))

end Cert.Proof.RI
end
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_pre
public import proofs.«01_k».proof.Proof.K.Pre
public import proofs.«01_k».proof.Proof.K.IdealRun
public import proofs.«01_k».proof.Proof.K.KernRun
public import proofs.«01_k».proof.Proof.K.ValueKernel
public import proofs.«01_k».proof.Proof.K.ValueRef

@[expose] public section

noncomputable section

namespace Cert.Proof

open Idealize.ShloMosaic Idealize.SL.Sem

/-- The kernel runs, at its own number formats, leaves its arguments as they were and every semaphore at zero. -/
theorem kernel_frame : Cert.quiescent_Kernel (hKernel := Cert.Kernel.Gen.facts) (hPre_pre := Cert.Pre_pre.Gen.facts) :=
  fun m g hpre => (θ_run _ _ _).mono (fun _ h => ⟨fun c => (h.1 c).2, h.2⟩)
    (Cert.Proof.KB.run m g fun c => K.ids_ok _ _ _ _ _ _ (hpre c))

/-- The same of the kernel read over the extended reals. -/
theorem kernelIdeal_frame : Cert.quiescent_KernelIdeal (hKernelIdeal := Cert.KernelIdeal.Gen.facts) (hPre_pre := Cert.Pre_pre.Gen.facts) :=
  fun m g hpre => (θ_run _ _ _).mono (fun _ h => ⟨fun c => (h.1 c).2, h.2⟩)
    (Cert.Proof.KI.run m g fun c => K.ids_ok _ _ _ _ _ _ (hpre c))

/-- The same of the reference read over the extended reals, whatever the token ids are. -/
theorem referenceIdeal_frame : Cert.quiescent_ReferenceIdeal (hReferenceIdeal := Cert.ReferenceIdeal.Gen.facts) :=
  fun m g _ => Cert.ReferenceIdeal.Gen.frame m g

/-- In particular when every token id is in the vocabulary. -/
theorem referenceIdeal_frame_pre : Cert.quiescent_ReferenceIdeal_pre_pre (hReferenceIdeal := Cert.ReferenceIdeal.Gen.facts) (hPre_pre := Cert.Pre_pre.Gen.facts) :=
  fun m g _ => Cert.ReferenceIdeal.Gen.frame m g

/-- Read over the extended reals, from equal arguments with every token id in the vocabulary, the kernel and the reference
both terminate with the same result array, `K.gradV` of the arguments, and their arguments unchanged. -/
theorem algebraic : Cert.algebraic_KernelIdeal_ReferenceIdeal (hKernelIdeal := Cert.KernelIdeal.Gen.facts)
    (hReferenceIdeal := Cert.ReferenceIdeal.Gen.facts) (hPre_pre := Cert.Pre_pre.Gen.facts) := by
  intro m g m' g' hpre hargs
  refine ⟨fun c => KI.grad m c, ?_, ?_⟩
  · exact (θ_run _ _ _).mono (fun _ h c => ⟨(h.1 c).1.trans (KI.arr_eq m c), (h.1 c).2⟩)
      (Cert.Proof.KI.run m g fun c => K.ids_ok _ _ _ _ _ _ (hpre c))
  · have hgrad : ∀ c, RI.grad m' c = KI.grad m c := by
      intro c
      obtain ⟨h0, h1, h2, h3, h4, h5⟩ := hargs c
      unfold RI.grad KI.grad
      rw [h0, h1, h2, h3, h4, h5]
    refine (θ_run _ _ _).mono (fun _ h c => ⟨(h c).1.trans (hgrad c), (h c).2⟩) (Cert.Proof.RI.run m' g' fun c y => ?_)
    obtain ⟨_, _, _, _, h4, _⟩ := hargs c
    rw [h4]
    exact K.id_lt _ _ _ _ _ _ (hpre c) y

/-- All the claims. -/
theorem claim : Cert.Claim := ⟨Cert.Kernel.Gen.facts, Cert.KernelIdeal.Gen.facts, Cert.ReferenceIdeal.Gen.facts, Cert.Pre_pre.Gen.facts,
  kernel_frame, kernelIdeal_frame, referenceIdeal_frame, referenceIdeal_frame_pre, trivial, algebraic⟩

end Cert.Proof

end
